-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v286) = v0 c
          ∧ r.2.mem ((c.tc : Thread Cert.ReferenceIdeal.nD Cert.ReferenceIdeal.τ).loc Cert.ReferenceIdeal.main_v288) = v1 c
          ∧ r.2.mem ((c.tc : Thread Cert.ReferenceIdeal.nD Cert.ReferenceIdeal.τ).loc Cert.ReferenceIdeal.main_v289) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x3584 : Shape := ⟨3, ![4, 2048, 3584]⟩
abbrev S3584x18944 : Shape := ⟨2, ![3584, 18944]⟩
abbrev S18944 : Shape := ⟨1, ![18944]⟩
abbrev S18944x3584 : Shape := ⟨2, ![18944, 3584]⟩
abbrev S3584 : Shape := ⟨1, ![3584]⟩
abbrev S1x18944 : Shape := ⟨2, ![1, 18944]⟩
abbrev S3x18944 : Shape := ⟨2, ![3, 18944]⟩
abbrev S1x3584 : Shape := ⟨2, ![1, 3584]⟩
abbrev S6x3584 : Shape := ⟨2, ![6, 3584]⟩
abbrev S8192x3584 : Shape := ⟨2, ![8192, 3584]⟩
abbrev S8192x18944 : Shape := ⟨2, ![8192, 18944]⟩
abbrev S512x3584 : Shape := ⟨2, ![512, 3584]⟩
abbrev S3584x512 : Shape := ⟨2, ![3584, 512]⟩
abbrev S3x512 : Shape := ⟨2, ![3, 512]⟩
abbrev S512x512 : Shape := ⟨2, ![512, 512]⟩
abbrev S1x512 : Shape := ⟨2, ![1, 512]⟩
abbrev S256x1024 : Shape := ⟨2, ![256, 1024]⟩
abbrev S1024x512 : Shape := ⟨2, ![1024, 512]⟩
abbrev S256x512 : Shape := ⟨2, ![256, 512]⟩
abbrev S256x3584 : Shape := ⟨2, ![256, 3584]⟩
abbrev S16x3584 : Shape := ⟨2, ![16, 3584]⟩
abbrev S16x128 : Shape := ⟨2, ![16, 128]⟩
abbrev S16 : Shape := ⟨1, ![16]⟩
abbrev S16x1 : Shape := ⟨2, ![16, 1]⟩

abbrev nBuf : Space → Nat
  | .hbm => 27
  | .vmem => 17
  | .smem => 0
  | _ => 0

abbrev bufTy : (tb : Table) → Fin (tcTables nBuf tb) → BufTy
  | .hbm, ⟨0, _⟩ => ⟨S4x2048x3584, .i8⟩
  | .hbm, ⟨1, _⟩ => ⟨S3584x18944, .i8⟩
  | .hbm, ⟨2, _⟩ => ⟨S18944, .i32⟩
  | .hbm, ⟨3, _⟩ => ⟨S18944, .i32⟩
  | .hbm, ⟨4, _⟩ => ⟨S18944, .i32⟩
  | .hbm, ⟨5, _⟩ => ⟨S18944x3584, .i8⟩
  | .hbm, ⟨6, _⟩ => ⟨S3584, .i32⟩
  | .hbm, ⟨7, _⟩ => ⟨S3584, .i32⟩
  | .hbm, ⟨8, _⟩ => ⟨S3584, .i32⟩
  | .hbm, ⟨9, _⟩ => ⟨S3584, .i32⟩
  | .hbm, ⟨10, _⟩ => ⟨S3584, .i32⟩
  | .hbm, ⟨11, _⟩ => ⟨S3584, .i32⟩
  | .hbm, ⟨12, _⟩ => ⟨S1x18944, .i32⟩
  | .hbm, ⟨13, _⟩ => ⟨S1x18944, .i32⟩
  | .hbm, ⟨14, _⟩ => ⟨S1x18944, .i32⟩
  | .hbm, ⟨15, _⟩ => ⟨S3x18944, .i32⟩
  | .hbm, ⟨16, _⟩ => ⟨S1x3584, .i32⟩
  | .hbm, ⟨17, _⟩ => ⟨S1x3584, .i32⟩
  | .hbm, ⟨18, _⟩ => ⟨S1x3584, .i32⟩
  | .hbm, ⟨19, _⟩ => ⟨S1x3584, .i32⟩
  | .hbm, ⟨20, _⟩ => ⟨S1x3584, .i32⟩
  | .hbm, ⟨21, _⟩ => ⟨S1x3584, .i32⟩
  | .hbm, ⟨22, _⟩ => ⟨S6x3584, .i32⟩
  | .hbm, ⟨23, _⟩ => ⟨S8192x3584, .i8⟩
  | .hbm, ⟨24, _⟩ => ⟨S8192x3584, .i8⟩
  | .hbm, ⟨25, _⟩ => ⟨S8192x18944, .i16⟩
  | .hbm, ⟨26, _⟩ => ⟨S8192x18944, .i8⟩
  | .local _ .vmem, ⟨0, _⟩ => ⟨S512x3584, .i8⟩
  | .local _ .vmem, ⟨1, _⟩ => ⟨S512x3584, .i8⟩
  | .local _ .vmem, ⟨2, _⟩ => ⟨S3584x512, .i8⟩
  | .local _ .vmem, ⟨3, _⟩ => ⟨S3584x512, .i8⟩
  | .local _ .vmem, ⟨4, _⟩ => ⟨S3x512, .i32⟩
  | .local _ .vmem, ⟨5, _⟩ => ⟨S3x512, .i32⟩
  | .local _ .vmem, ⟨6, _⟩ => ⟨S512x3584, .i8⟩
  | .local _ .vmem, ⟨7, _⟩ => ⟨S512x3584, .i8⟩
  | .local _ .vmem, ⟨8, _⟩ => ⟨S6x3584, .i32⟩
  | .local _ .vmem, ⟨9, _⟩ => ⟨S512x3584, .i8⟩
  | .local _ .vmem, ⟨10, _⟩ => ⟨S512x3584, .i8⟩
  | .local _ .vmem, ⟨11, _⟩ => ⟨S512x512, .i16⟩
  | .local _ .vmem, ⟨12, _⟩ => ⟨S512x512, .i16⟩
  | .local _ .vmem, ⟨13, _⟩ => ⟨S512x512, .i8⟩
  | .local _ .vmem, ⟨14, _⟩ => ⟨S512x512, .i8⟩
  | .local _ .vmem, ⟨15, _⟩ => ⟨S512x3584, .bf16⟩
  | .local _ .vmem, ⟨16, _⟩ => ⟨S512x3584, .i32⟩
  | _, _ => ⟨S4x2048x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 37], ![false, false]⟩

def k0_cond2 (i : grid0.Coords) : BitVec 1 :=
  let arg1 : BitVec 32 := BitVec.ofNat 32 (i 1).val
  let c36_i32 : BitVec 32 := 36#32
  let v227 : BitVec 1 := Scalar.cmpi .eq arg1 c36_i32
  let v228 : BitVec 32 := Scalar.extui v227
  let c0_i32_83 : BitVec 32 := 0#32
  let v229 : BitVec 1 := Scalar.cmpi .ne v228 c0_i32_83
  v229

@[reducible] def k0_t1_loop : Scf.Loop 32 :=
  let c0_i32_119 : BitVec 32 := 0#32
  let c32_i32 : BitVec 32 := 32#32
  let v300 : BitVec 32 := Scalar.addi c0_i32_119 c32_i32
  let c1_i32_120 : BitVec 32 := 1#32
  ⟨c0_i32_119, v300, c1_i32_120⟩
def k0_mult1 (k0_t1 : Fin k0_t1_loop.trips) : BitVec 32 :=
  let c0_i32_127 : BitVec 32 := 0#32
  let c0_i32_119 : BitVec 32 := 0#32
  let c1_i32_120 : BitVec 32 := 1#32
  let arg12 : BitVec 32 := Scf.iv c0_i32_119 c1_i32_120 k0_t1
  let c1_i32_126 : BitVec 32 := 1#32
  let v304 : BitVec 32 := Scalar.muli arg12 c1_i32_126
  let v305 : BitVec 32 := Scalar.addi c0_i32_127 v304
  let c16_i32 : BitVec 32 := 16#32
  let v306 : BitVec 32 := Scalar.muli v305 c16_i32
  v306
def k0_off1 (k0_t1 : Fin k0_t1_loop.trips) : Fin 2 → Nat :=
  let c0_i32_127 : BitVec 32 := 0#32
  let c0_i32_119 : BitVec 32 := 0#32
  let c1_i32_120 : BitVec 32 := 1#32
  let arg12 : BitVec 32 := Scf.iv c0_i32_119 c1_i32_120 k0_t1
  let c1_i32_126 : BitVec 32 := 1#32
  let v304 : BitVec 32 := Scalar.muli arg12 c1_i32_126
  let v305 : BitVec 32 := Scalar.addi c0_i32_127 v304
  let c16_i32 : BitVec 32 := 16#32
  let v306 : BitVec 32 := Scalar.muli v305 c16_i32
  let v307 : BitVec 32 := v306
  let v308 : Index := Scalar.indexCast v307
  let c0_128 : Index := 0#32
  ![v308.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3584 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x3584 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S6x3584 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x3584 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .i16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x2048x3584 : Shape := ⟨3, ![4, 2048, 3584]⟩
abbrev S3584x18944 : Shape := ⟨2, ![3584, 18944]⟩
abbrev S18944 : Shape := ⟨1, ![18944]⟩
abbrev S18944x3584 : Shape := ⟨2, ![18944, 3584]⟩
abbrev S3584 : Shape := ⟨1, ![3584]⟩
abbrev S4x2048x3584x1 : Shape := ⟨4, ![4, 2048, 3584, 1]⟩
abbrev S1x1x3584x18944 : Shape := ⟨4, ![1, 1, 3584, 18944]⟩
abbrev S4x2048x3584x18944 : Shape := ⟨4, ![4, 2048, 3584, 18944]⟩
abbrev S_ : Shape := ⟨0, ![]⟩
abbrev S4x2048x18944 : Shape := ⟨3, ![4, 2048, 18944]⟩
abbrev S1x1x18944 : Shape := ⟨3, ![1, 1, 18944]⟩
abbrev S4x2048x18944x1 : Shape := ⟨4, ![4, 2048, 18944, 1]⟩
abbrev S1x1x18944x3584 : Shape := ⟨4, ![1, 1, 18944, 3584]⟩
abbrev S4x2048x18944x3584 : Shape := ⟨4, ![4, 2048, 18944, 3584]⟩
abbrev S1x1x3584 : Shape := ⟨3, ![1, 1, 3584]⟩
abbrev S4x2048 : Shape := ⟨2, ![4, 2048]⟩
abbrev S4x2048x1 : Shape := ⟨3, ![4, 2048, 1]⟩
abbrev S8192x3584 : Shape := ⟨2, ![8192, 3584]⟩
abbrev S8192x18944 : Shape := ⟨2, ![8192, 18944]⟩

abbrev nBuf : Space → Nat
  | .hbm => 662
  | .vmem => 0
  | .smem => 0
  | _ => 0

abbrev hbmTy0_0 (i : Nat) : BufTy := match i % 128 with
  | 0 => ⟨S4x2048x3584, .i8⟩
  | 1 => ⟨S3584x18944, .i8⟩
  | 2 => ⟨S18944, .i32⟩
  | 3 => ⟨S18944, .i32⟩
  | 4 => ⟨S18944, .i32⟩
  | 5 => ⟨S18944x3584, .i8⟩
  | 6 => ⟨S3584, .i32⟩
  | 7 => ⟨S3584, .i32⟩
  | 8 => ⟨S3584, .i32⟩
  | 9 => ⟨S3584, .i32⟩
  | 10 => ⟨S3584, .i32⟩
  | 11 => ⟨S3584, .i32⟩
  | 12 => ⟨S4x2048x3584, .i32⟩
  | 13 => ⟨S4x2048x3584x1, .i32⟩
  | 14 => ⟨S3584x18944, .i32⟩
  | 15 => ⟨S1x1x3584x18944, .i32⟩
  | 16 => ⟨S4x2048x3584x18944, .i32⟩
  | 17 => ⟨S4x2048x3584x18944, .i32⟩
  | 18 => ⟨S4x2048x3584x18944, .i32⟩
  | 19 => ⟨S_, .i32⟩
  | 20 => ⟨S4x2048x18944, .i32⟩
  | 21 => ⟨S1x1x18944, .i32⟩
  | 22 => ⟨S4x2048x18944, .i32⟩
  | 23 => ⟨S4x2048x18944, .i32⟩
  | 24 => ⟨S_, .i32⟩
  | 25 => ⟨S18944, .i32⟩
  | 26 => ⟨S18944, .i32⟩
  | 27 => ⟨S_, .i32⟩
  | 28 => ⟨S18944, .i32⟩
  | 29 => ⟨S18944, .i32⟩
  | 30 => ⟨S_, .i32⟩
  | 31 => ⟨S18944, .i32⟩
  | 32 => ⟨S18944, .i32⟩
  | 33 => ⟨S1x1x18944, .i32⟩
  | 34 => ⟨S4x2048x18944, .i32⟩
  | 35 => ⟨S4x2048x18944, .i32⟩
  | 36 => ⟨S1x1x18944, .i32⟩
  | 37 => ⟨S4x2048x18944, .i32⟩
  | 38 => ⟨S4x2048x18944, .i32⟩
  | 39 => ⟨S1x1x18944, .i32⟩
  | 40 => ⟨S4x2048x18944, .i32⟩
  | 41 => ⟨S4x2048x18944, .i32⟩
  | 42 => ⟨S1x1x18944, .i32⟩
  | 43 => ⟨S4x2048x18944, .i32⟩
  | 44 => ⟨S4x2048x18944, .i32⟩
  | 45 => ⟨S_, .i32⟩
  | 46 => ⟨S18944, .i32⟩
  | 47 => ⟨S18944, .i32⟩
  | 48 => ⟨S_, .i32⟩
  | 49 => ⟨S18944, .i32⟩
  | 50 => ⟨S18944, .i32⟩
  | 51 => ⟨S1x1x18944, .i32⟩
  | 52 => ⟨S4x2048x18944, .i32⟩
  | 53 => ⟨S4x2048x18944, .i32⟩
  | 54 => ⟨S1x1x18944, .i32⟩
  | 55 => ⟨S4x2048x18944, .i32⟩
  | 56 => ⟨S4x2048x18944, .i32⟩
  | 57 => ⟨S4x2048x18944, .i32⟩
  | 58 => ⟨S18944, .i32⟩
  | 59 => ⟨S1x1x18944, .i32⟩
  | 60 => ⟨S4x2048x18944, .i32⟩
  | 61 => ⟨S4x2048x18944, .i32⟩
  | 62 => ⟨S_, .i32⟩
  | 63 => ⟨S4x2048x18944, .i32⟩
  | 64 => ⟨S4x2048x18944, .i32⟩
  | 65 => ⟨S_, .i32⟩
  | 66 => ⟨S_, .i32⟩
  | 67 => ⟨S_, .i32⟩
  | 68 => ⟨S4x2048x18944, .i32⟩
  | 69 => ⟨S4x2048x18944, .i32⟩
  | 70 => ⟨S_, .i32⟩
  | 71 => ⟨S4x2048x18944, .i32⟩
  | 72 => ⟨S4x2048x18944, .i32⟩
  | 73 => ⟨S4x2048x18944, .i32⟩
  | 74 => ⟨S_, .i32⟩
  | 75 => ⟨S4x2048x18944, .i32⟩
  | 76 => ⟨S4x2048x18944, .i32⟩
  | 77 => ⟨S_, .i32⟩
  | 78 => ⟨S4x2048x18944, .i32⟩
  | 79 => ⟨S4x2048x18944, .i32⟩
  | 80 => ⟨S4x2048x18944, .i32⟩
  | 81 => ⟨S4x2048x18944, .i32⟩
  | 82 => ⟨S_, .i32⟩
  | 83 => ⟨S4x2048x18944, .i32⟩
  | 84 => ⟨S4x2048x18944, .i32⟩
  | 85 => ⟨S4x2048x18944, .i32⟩
  | 86 => ⟨S_, .i32⟩
  | 87 => ⟨S4x2048x18944, .i32⟩
  | 88 => ⟨S4x2048x18944, .i32⟩
  | 89 => ⟨S_, .i32⟩
  | 90 => ⟨S4x2048x18944, .i32⟩
  | 91 => ⟨S4x2048x18944, .i32⟩
  | 92 => ⟨S4x2048x18944, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S4x2048x18944, .i32⟩
  | 101 => ⟨S4x2048x18944, .i32⟩
  | 102 => ⟨S_, .i32⟩
  | 103 => ⟨S4x2048x18944, .i32⟩
  | 104 => ⟨S4x2048x18944, .i32⟩
  | 105 => ⟨S4x2048x18944, .i32⟩
  | 106 => ⟨S4x2048x18944, .i32⟩
  | 107 => ⟨S_, .i32⟩
  | 108 => ⟨S4x2048x18944, .i32⟩
  | 109 => ⟨S4x2048x18944, .i32⟩
  | 110 => ⟨S_, .i32⟩
  | 111 => ⟨S_, .i32⟩
  | 112 => ⟨S_, .i32⟩
  | 113 => ⟨S_, .i32⟩
  | 114 => ⟨S_, .i32⟩
  | 115 => ⟨S4x2048x18944, .i32⟩
  | 116 => ⟨S4x2048x18944, .i32⟩
  | 117 => ⟨S4x2048x18944, .i32⟩
  | 118 => ⟨S4x2048x18944, .i32⟩
  | 119 => ⟨S4x2048x18944, .i32⟩
  | 120 => ⟨S_, .i32⟩
  | 121 => ⟨S_, .i32⟩
  | 122 => ⟨S4x2048x18944, .i32⟩
  | 123 => ⟨S4x2048x18944, .i32⟩
  | 124 => ⟨S_, .i32⟩
  | 125 => ⟨S4x2048x18944, .i32⟩
  | 126 => ⟨S4x2048x18944, .i32⟩
  | 127 => ⟨S_, .i32⟩
  | _ => ⟨S4x2048x3584, .i8⟩

abbrev hbmTy0_1 (i : Nat) : BufTy := match i % 128 with
  | 0 => ⟨S_, .i32⟩
  | 1 => ⟨S_, .i32⟩
  | 2 => ⟨S4x2048x18944, .i32⟩
  | 3 => ⟨S4x2048x18944, .i32⟩
  | 4 => ⟨S_, .i32⟩
  | 5 => ⟨S4x2048x18944, .i32⟩
  | 6 => ⟨S4x2048x18944, .i32⟩
  | 7 => ⟨S4x2048x18944, .i8⟩
  | 8 => ⟨S18944x3584, .i32⟩
  | 9 => ⟨S_, .i32⟩
  | 10 => ⟨S3584, .i32⟩
  | 11 => ⟨S4x2048x18944, .i16⟩
  | 12 => ⟨S18944x3584, .i16⟩
  | 13 => ⟨S4x2048x18944, .i32⟩
  | 14 => ⟨S4x2048x18944x1, .i32⟩
  | 15 => ⟨S18944x3584, .i32⟩
  | 16 => ⟨S1x1x18944x3584, .i32⟩
  | 17 => ⟨S4x2048x18944x3584, .i32⟩
  | 18 => ⟨S4x2048x18944x3584, .i32⟩
  | 19 => ⟨S4x2048x18944x3584, .i32⟩
  | 20 => ⟨S_, .i32⟩
  | 21 => ⟨S4x2048x3584, .i32⟩
  | 22 => ⟨S_, .i32⟩
  | 23 => ⟨S3584, .i32⟩
  | 24 => ⟨S3584, .i32⟩
  | 25 => ⟨S1x1x3584, .i32⟩
  | 26 => ⟨S4x2048x3584, .i32⟩
  | 27 => ⟨S4x2048x3584, .i32⟩
  | 28 => ⟨S1x1x3584, .i32⟩
  | 29 => ⟨S4x2048x3584, .i32⟩
  | 30 => ⟨S4x2048x3584, .i32⟩
  | 31 => ⟨S_, .i32⟩
  | 32 => ⟨S3584, .i32⟩
  | 33 => ⟨S3584, .i32⟩
  | 34 => ⟨S_, .i32⟩
  | 35 => ⟨S3584, .i32⟩
  | 36 => ⟨S3584, .i32⟩
  | 37 => ⟨S_, .i32⟩
  | 38 => ⟨S3584, .i32⟩
  | 39 => ⟨S3584, .i32⟩
  | 40 => ⟨S1x1x3584, .i32⟩
  | 41 => ⟨S4x2048x3584, .i32⟩
  | 42 => ⟨S4x2048x3584, .i32⟩
  | 43 => ⟨S1x1x3584, .i32⟩
  | 44 => ⟨S4x2048x3584, .i32⟩
  | 45 => ⟨S4x2048x3584, .i32⟩
  | 46 => ⟨S1x1x3584, .i32⟩
  | 47 => ⟨S4x2048x3584, .i32⟩
  | 48 => ⟨S4x2048x3584, .i32⟩
  | 49 => ⟨S1x1x3584, .i32⟩
  | 50 => ⟨S4x2048x3584, .i32⟩
  | 51 => ⟨S4x2048x3584, .i32⟩
  | 52 => ⟨S_, .i32⟩
  | 53 => ⟨S3584, .i32⟩
  | 54 => ⟨S3584, .i32⟩
  | 55 => ⟨S_, .i32⟩
  | 56 => ⟨S3584, .i32⟩
  | 57 => ⟨S3584, .i32⟩
  | 58 => ⟨S1x1x3584, .i32⟩
  | 59 => ⟨S4x2048x3584, .i32⟩
  | 60 => ⟨S4x2048x3584, .i32⟩
  | 61 => ⟨S1x1x3584, .i32⟩
  | 62 => ⟨S4x2048x3584, .i32⟩
  | 63 => ⟨S4x2048x3584, .i32⟩
  | 64 => ⟨S4x2048x3584, .i32⟩
  | 65 => ⟨S3584, .i32⟩
  | 66 => ⟨S1x1x3584, .i32⟩
  | 67 => ⟨S4x2048x3584, .i32⟩
  | 68 => ⟨S4x2048x3584, .i32⟩
  | 69 => ⟨S4x2048x3584, .i32⟩
  | 70 => ⟨S_, .i32⟩
  | 71 => ⟨S4x2048x3584, .i32⟩
  | 72 => ⟨S4x2048x3584, .i32⟩
  | 73 => ⟨S4x2048x3584, .i32⟩
  | 74 => ⟨S_, .i32⟩
  | 75 => ⟨S4x2048, .i32⟩
  | 76 => ⟨S4x2048x1, .i32⟩
  | 77 => ⟨S_, .i32⟩
  | 78 => ⟨S4x2048x1, .i32⟩
  | 79 => ⟨S4x2048x1, .i32⟩
  | 80 => ⟨S_, .i32⟩
  | 81 => ⟨S_, .i32⟩
  | 82 => ⟨S4x2048x1, .i32⟩
  | 83 => ⟨S4x2048x1, .i32⟩
  | 84 => ⟨S4x2048x1, .i32⟩
  | 85 => ⟨S_, .i32⟩
  | 86 => ⟨S4x2048x1, .i32⟩
  | 87 => ⟨S4x2048x1, .i1⟩
  | 88 => ⟨S4x2048x1, .i32⟩
  | 89 => ⟨S4x2048x1, .i32⟩
  | 90 => ⟨S_, .i32⟩
  | 91 => ⟨S4x2048x1, .i32⟩
  | 92 => ⟨S4x2048x1, .i1⟩
  | 93 => ⟨S4x2048x1, .i1⟩
  | 94 => ⟨S_, .i32⟩
  | 95 => ⟨S4x2048x1, .i32⟩
  | 96 => ⟨S4x2048x1, .i32⟩
  | 97 => ⟨S4x2048x1, .i32⟩
  | 98 => ⟨S4x2048x3584, .i32⟩
  | 99 => ⟨S4x2048x3584, .i32⟩
  | 100 => ⟨S_, .i32⟩
  | 101 => ⟨S4x2048x3584, .i32⟩
  | 102 => ⟨S4x2048x3584, .i32⟩
  | 103 => ⟨S4x2048x3584, .i32⟩
  | 104 => ⟨S_, .i32⟩
  | 105 => ⟨S4x2048, .i32⟩
  | 106 => ⟨S4x2048x1, .i32⟩
  | 107 => ⟨S_, .i32⟩
  | 108 => ⟨S4x2048x1, .i32⟩
  | 109 => ⟨S4x2048x1, .i32⟩
  | 110 => ⟨S_, .i32⟩
  | 111 => ⟨S4x2048x1, .i32⟩
  | 112 => ⟨S4x2048x1, .i32⟩
  | 113 => ⟨S4x2048x1, .i32⟩
  | 114 => ⟨S4x2048x1, .i32⟩
  | 115 => ⟨S4x2048x1, .i1⟩
  | 116 => ⟨S4x2048x1, .i32⟩
  | 117 => ⟨S_, .i32⟩
  | 118 => ⟨S4x2048x1, .i32⟩
  | 119 => ⟨S4x2048x1, .i1⟩
  | 120 => ⟨S4x2048x1, .i1⟩
  | 121 => ⟨S_, .i32⟩
  | 122 => ⟨S4x2048x1, .i32⟩
  | 123 => ⟨S4x2048x1, .i32⟩
  | 124 => ⟨S4x2048x1, .i32⟩
  | 125 => ⟨S4x2048x1, .i32⟩
  | 126 => ⟨S_, .i32⟩
  | 127 => ⟨S4x2048x1, .i32⟩
  | _ => ⟨S4x2048x3584, .i8⟩

abbrev hbmTy0_2 (i : Nat) : BufTy := match i % 128 with
  | 0 => ⟨S4x2048x1, .i32⟩
  | 1 => ⟨S4x2048x1, .i32⟩
  | 2 => ⟨S4x2048x1, .i32⟩
  | 3 => ⟨S4x2048x1, .i32⟩
  | 4 => ⟨S4x2048x1, .i1⟩
  | 5 => ⟨S4x2048x1, .i32⟩
  | 6 => ⟨S_, .i32⟩
  | 7 => ⟨S4x2048x1, .i32⟩
  | 8 => ⟨S4x2048x1, .i1⟩
  | 9 => ⟨S4x2048x1, .i1⟩
  | 10 => ⟨S_, .i32⟩
  | 11 => ⟨S4x2048x1, .i32⟩
  | 12 => ⟨S4x2048x1, .i32⟩
  | 13 => ⟨S4x2048x1, .i32⟩
  | 14 => ⟨S4x2048x1, .i32⟩
  | 15 => ⟨S_, .i32⟩
  | 16 => ⟨S4x2048x1, .i32⟩
  | 17 => ⟨S4x2048x1, .i32⟩
  | 18 => ⟨S4x2048x1, .i32⟩
  | 19 => ⟨S4x2048x1, .i32⟩
  | 20 => ⟨S4x2048x1, .i32⟩
  | 21 => ⟨S4x2048x1, .i1⟩
  | 22 => ⟨S4x2048x1, .i32⟩
  | 23 => ⟨S_, .i32⟩
  | 24 => ⟨S4x2048x1, .i32⟩
  | 25 => ⟨S4x2048x1, .i1⟩
  | 26 => ⟨S4x2048x1, .i1⟩
  | 27 => ⟨S_, .i32⟩
  | 28 => ⟨S4x2048x1, .i32⟩
  | 29 => ⟨S4x2048x1, .i32⟩
  | 30 => ⟨S4x2048x1, .i32⟩
  | 31 => ⟨S4x2048x1, .i32⟩
  | 32 => ⟨S_, .i32⟩
  | 33 => ⟨S4x2048x1, .i32⟩
  | 34 => ⟨S4x2048x1, .i32⟩
  | 35 => ⟨S4x2048x1, .i32⟩
  | 36 => ⟨S4x2048x1, .i32⟩
  | 37 => ⟨S4x2048x1, .i32⟩
  | 38 => ⟨S4x2048x1, .i1⟩
  | 39 => ⟨S4x2048x1, .i32⟩
  | 40 => ⟨S_, .i32⟩
  | 41 => ⟨S4x2048x1, .i32⟩
  | 42 => ⟨S4x2048x1, .i1⟩
  | 43 => ⟨S4x2048x1, .i1⟩
  | 44 => ⟨S_, .i32⟩
  | 45 => ⟨S4x2048x1, .i32⟩
  | 46 => ⟨S4x2048x1, .i32⟩
  | 47 => ⟨S4x2048x1, .i32⟩
  | 48 => ⟨S4x2048x1, .i32⟩
  | 49 => ⟨S_, .i32⟩
  | 50 => ⟨S4x2048x1, .i32⟩
  | 51 => ⟨S4x2048x1, .i32⟩
  | 52 => ⟨S4x2048x1, .i32⟩
  | 53 => ⟨S4x2048x1, .i32⟩
  | 54 => ⟨S4x2048x1, .i32⟩
  | 55 => ⟨S4x2048x1, .i1⟩
  | 56 => ⟨S4x2048x1, .i32⟩
  | 57 => ⟨S_, .i32⟩
  | 58 => ⟨S4x2048x1, .i32⟩
  | 59 => ⟨S4x2048x1, .i1⟩
  | 60 => ⟨S4x2048x1, .i1⟩
  | 61 => ⟨S_, .i32⟩
  | 62 => ⟨S4x2048x1, .i32⟩
  | 63 => ⟨S4x2048x1, .i32⟩
  | 64 => ⟨S4x2048x1, .i32⟩
  | 65 => ⟨S4x2048x1, .i32⟩
  | 66 => ⟨S_, .i32⟩
  | 67 => ⟨S4x2048x1, .i32⟩
  | 68 => ⟨S4x2048x1, .i32⟩
  | 69 => ⟨S4x2048x1, .i32⟩
  | 70 => ⟨S4x2048x1, .i32⟩
  | 71 => ⟨S4x2048x1, .i32⟩
  | 72 => ⟨S4x2048x1, .i1⟩
  | 73 => ⟨S4x2048x1, .i32⟩
  | 74 => ⟨S_, .i32⟩
  | 75 => ⟨S4x2048x1, .i32⟩
  | 76 => ⟨S4x2048x1, .i1⟩
  | 77 => ⟨S4x2048x1, .i1⟩
  | 78 => ⟨S_, .i32⟩
  | 79 => ⟨S4x2048x1, .i32⟩
  | 80 => ⟨S4x2048x1, .i32⟩
  | 81 => ⟨S4x2048x1, .i32⟩
  | 82 => ⟨S4x2048x1, .i32⟩
  | 83 => ⟨S_, .i32⟩
  | 84 => ⟨S4x2048x1, .i32⟩
  | 85 => ⟨S4x2048x1, .i32⟩
  | 86 => ⟨S4x2048x1, .i32⟩
  | 87 => ⟨S4x2048x1, .i32⟩
  | 88 => ⟨S4x2048x1, .i32⟩
  | 89 => ⟨S4x2048x1, .i1⟩
  | 90 => ⟨S4x2048x1, .i32⟩
  | 91 => ⟨S_, .i32⟩
  | 92 => ⟨S4x2048x1, .i32⟩
  | 93 => ⟨S4x2048x1, .i1⟩
  | 94 => ⟨S4x2048x1, .i1⟩
  | 95 => ⟨S_, .i32⟩
  | 96 => ⟨S4x2048x1, .i32⟩
  | 97 => ⟨S4x2048x1, .i32⟩
  | 98 => ⟨S4x2048x1, .i32⟩
  | 99 => ⟨S4x2048x1, .i32⟩
  | 100 => ⟨S_, .i32⟩
  | 101 => ⟨S4x2048x1, .i32⟩
  | 102 => ⟨S4x2048x1, .i32⟩
  | 103 => ⟨S4x2048x1, .i32⟩
  | 104 => ⟨S4x2048x1, .i32⟩
  | 105 => ⟨S4x2048x1, .i32⟩
  | 106 => ⟨S4x2048x1, .i1⟩
  | 107 => ⟨S4x2048x1, .i32⟩
  | 108 => ⟨S_, .i32⟩
  | 109 => ⟨S4x2048x1, .i32⟩
  | 110 => ⟨S4x2048x1, .i1⟩
  | 111 => ⟨S4x2048x1, .i1⟩
  | 112 => ⟨S_, .i32⟩
  | 113 => ⟨S4x2048x1, .i32⟩
  | 114 => ⟨S4x2048x1, .i32⟩
  | 115 => ⟨S4x2048x1, .i32⟩
  | 116 => ⟨S4x2048x1, .i32⟩
  | 117 => ⟨S_, .i32⟩
  | 118 => ⟨S4x2048x1, .i32⟩
  | 119 => ⟨S4x2048x1, .i32⟩
  | 120 => ⟨S4x2048x1, .i32⟩
  | 121 => ⟨S4x2048x1, .i32⟩
  | 122 => ⟨S4x2048x1, .i32⟩
  | 123 => ⟨S4x2048x1, .i1⟩
  | 124 => ⟨S4x2048x1, .i32⟩
  | 125 => ⟨S_, .i32⟩
  | 126 => ⟨S4x2048x1, .i32⟩
  | 127 => ⟨S4x2048x1, .i1⟩
  | _ => ⟨S4x2048x3584, .i8⟩

abbrev hbmTy0_3 (i : Nat) : BufTy := match i % 128 with
  | 0 => ⟨S4x2048x1, .i1⟩
  | 1 => ⟨S_, .i32⟩
  | 2 => ⟨S4x2048x1, .i32⟩
  | 3 => ⟨S4x2048x1, .i32⟩
  | 4 => ⟨S4x2048x1, .i32⟩
  | 5 => ⟨S4x2048x1, .i32⟩
  | 6 => ⟨S_, .i32⟩
  | 7 => ⟨S4x2048x1, .i32⟩
  | 8 => ⟨S4x2048x1, .i32⟩
  | 9 => ⟨S4x2048x1, .i32⟩
  | 10 => ⟨S4x2048x1, .i32⟩
  | 11 => ⟨S4x2048x1, .i32⟩
  | 12 => ⟨S4x2048x1, .i1⟩
  | 13 => ⟨S4x2048x1, .i32⟩
  | 14 => ⟨S_, .i32⟩
  | 15 => ⟨S4x2048x1, .i32⟩
  | 16 => ⟨S4x2048x1, .i1⟩
  | 17 => ⟨S4x2048x1, .i1⟩
  | 18 => ⟨S_, .i32⟩
  | 19 => ⟨S4x2048x1, .i32⟩
  | 20 => ⟨S4x2048x1, .i32⟩
  | 21 => ⟨S4x2048x1, .i32⟩
  | 22 => ⟨S4x2048x1, .i32⟩
  | 23 => ⟨S_, .i32⟩
  | 24 => ⟨S4x2048x1, .i32⟩
  | 25 => ⟨S4x2048x1, .i32⟩
  | 26 => ⟨S4x2048x1, .i32⟩
  | 27 => ⟨S4x2048x1, .i32⟩
  | 28 => ⟨S4x2048x1, .i32⟩
  | 29 => ⟨S4x2048x1, .i1⟩
  | 30 => ⟨S4x2048x1, .i32⟩
  | 31 => ⟨S_, .i32⟩
  | 32 => ⟨S4x2048x1, .i32⟩
  | 33 => ⟨S4x2048x1, .i1⟩
  | 34 => ⟨S4x2048x1, .i1⟩
  | 35 => ⟨S_, .i32⟩
  | 36 => ⟨S4x2048x1, .i32⟩
  | 37 => ⟨S4x2048x1, .i32⟩
  | 38 => ⟨S4x2048x1, .i32⟩
  | 39 => ⟨S4x2048x1, .i32⟩
  | 40 => ⟨S_, .i32⟩
  | 41 => ⟨S4x2048x1, .i32⟩
  | 42 => ⟨S4x2048x1, .i32⟩
  | 43 => ⟨S4x2048x1, .i32⟩
  | 44 => ⟨S4x2048x1, .i32⟩
  | 45 => ⟨S4x2048x1, .i32⟩
  | 46 => ⟨S4x2048x1, .i1⟩
  | 47 => ⟨S4x2048x1, .i32⟩
  | 48 => ⟨S_, .i32⟩
  | 49 => ⟨S4x2048x1, .i32⟩
  | 50 => ⟨S4x2048x1, .i1⟩
  | 51 => ⟨S4x2048x1, .i1⟩
  | 52 => ⟨S_, .i32⟩
  | 53 => ⟨S4x2048x1, .i32⟩
  | 54 => ⟨S4x2048x1, .i32⟩
  | 55 => ⟨S4x2048x1, .i32⟩
  | 56 => ⟨S4x2048x1, .i32⟩
  | 57 => ⟨S_, .i32⟩
  | 58 => ⟨S4x2048x1, .i32⟩
  | 59 => ⟨S4x2048x1, .i32⟩
  | 60 => ⟨S4x2048x1, .i32⟩
  | 61 => ⟨S4x2048x1, .i32⟩
  | 62 => ⟨S4x2048x1, .i32⟩
  | 63 => ⟨S4x2048x1, .i1⟩
  | 64 => ⟨S4x2048x1, .i32⟩
  | 65 => ⟨S_, .i32⟩
  | 66 => ⟨S4x2048x1, .i32⟩
  | 67 => ⟨S4x2048x1, .i1⟩
  | 68 => ⟨S4x2048x1, .i1⟩
  | 69 => ⟨S_, .i32⟩
  | 70 => ⟨S4x2048x1, .i32⟩
  | 71 => ⟨S4x2048x1, .i32⟩
  | 72 => ⟨S4x2048x1, .i32⟩
  | 73 => ⟨S4x2048x1, .i32⟩
  | 74 => ⟨S_, .i32⟩
  | 75 => ⟨S4x2048x1, .i32⟩
  | 76 => ⟨S4x2048x1, .i32⟩
  | 77 => ⟨S4x2048x1, .i32⟩
  | 78 => ⟨S4x2048x1, .i32⟩
  | 79 => ⟨S4x2048x1, .i32⟩
  | 80 => ⟨S4x2048x1, .i1⟩
  | 81 => ⟨S4x2048x1, .i32⟩
  | 82 => ⟨S_, .i32⟩
  | 83 => ⟨S4x2048x1, .i32⟩
  | 84 => ⟨S4x2048x1, .i1⟩
  | 85 => ⟨S4x2048x1, .i1⟩
  | 86 => ⟨S_, .i32⟩
  | 87 => ⟨S4x2048x1, .i32⟩
  | 88 => ⟨S4x2048x1, .i32⟩
  | 89 => ⟨S4x2048x1, .i32⟩
  | 90 => ⟨S4x2048x1, .i32⟩
  | 91 => ⟨S_, .i32⟩
  | 92 => ⟨S4x2048x1, .i32⟩
  | 93 => ⟨S4x2048x1, .i32⟩
  | 94 => ⟨S4x2048x1, .i32⟩
  | 95 => ⟨S4x2048x1, .i32⟩
  | 96 => ⟨S4x2048x1, .i32⟩
  | 97 => ⟨S4x2048x1, .i1⟩
  | 98 => ⟨S4x2048x1, .i32⟩
  | 99 => ⟨S_, .i32⟩
  | 100 => ⟨S4x2048x1, .i32⟩
  | 101 => ⟨S4x2048x1, .i1⟩
  | 102 => ⟨S4x2048x1, .i1⟩
  | 103 => ⟨S_, .i32⟩
  | 104 => ⟨S4x2048x1, .i32⟩
  | 105 => ⟨S4x2048x1, .i32⟩
  | 106 => ⟨S4x2048x1, .i32⟩
  | 107 => ⟨S4x2048x1, .i32⟩
  | 108 => ⟨S_, .i32⟩
  | 109 => ⟨S4x2048x1, .i32⟩
  | 110 => ⟨S4x2048x1, .i32⟩
  | 111 => ⟨S4x2048x1, .i32⟩
  | 112 => ⟨S4x2048x1, .i32⟩
  | 113 => ⟨S4x2048x1, .i32⟩
  | 114 => ⟨S4x2048x1, .i1⟩
  | 115 => ⟨S4x2048x1, .i32⟩
  | 116 => ⟨S_, .i32⟩
  | 117 => ⟨S4x2048x1, .i32⟩
  | 118 => ⟨S4x2048x1, .i1⟩
  | 119 => ⟨S4x2048x1, .i1⟩
  | 120 => ⟨S_, .i32⟩
  | 121 => ⟨S4x2048x1, .i32⟩
  | 122 => ⟨S4x2048x1, .i32⟩
  | 123 => ⟨S4x2048x1, .i32⟩
  | 124 => ⟨S4x2048x1, .i32⟩
  | 125 => ⟨S_, .i32⟩
  | 126 => ⟨S4x2048x1, .i32⟩
  | 127 => ⟨S4x2048x1, .i32⟩
  | _ => ⟨S4x2048x3584, .i8⟩

abbrev hbmTy0_4 (i : Nat) : BufTy := match i % 128 with
  | 0 => ⟨S4x2048x1, .i32⟩
  | 1 => ⟨S4x2048x1, .i32⟩
  | 2 => ⟨S4x2048x1, .i32⟩
  | 3 => ⟨S4x2048x1, .i1⟩
  | 4 => ⟨S4x2048x1, .i32⟩
  | 5 => ⟨S_, .i32⟩
  | 6 => ⟨S4x2048x1, .i32⟩
  | 7 => ⟨S4x2048x1, .i1⟩
  | 8 => ⟨S4x2048x1, .i1⟩
  | 9 => ⟨S_, .i32⟩
  | 10 => ⟨S4x2048x1, .i32⟩
  | 11 => ⟨S4x2048x1, .i32⟩
  | 12 => ⟨S4x2048x1, .i32⟩
  | 13 => ⟨S4x2048x1, .i32⟩
  | 14 => ⟨S_, .i32⟩
  | 15 => ⟨S4x2048x1, .i32⟩
  | 16 => ⟨S4x2048x1, .i32⟩
  | 17 => ⟨S4x2048x1, .i32⟩
  | 18 => ⟨S4x2048x1, .i32⟩
  | 19 => ⟨S4x2048x1, .i32⟩
  | 20 => ⟨S4x2048x1, .i1⟩
  | 21 => ⟨S4x2048x1, .i32⟩
  | 22 => ⟨S_, .i32⟩
  | 23 => ⟨S4x2048x1, .i32⟩
  | 24 => ⟨S4x2048x1, .i1⟩
  | 25 => ⟨S4x2048x1, .i1⟩
  | 26 => ⟨S_, .i32⟩
  | 27 => ⟨S4x2048x1, .i32⟩
  | 28 => ⟨S4x2048x1, .i32⟩
  | 29 => ⟨S4x2048x1, .i32⟩
  | 30 => ⟨S4x2048x1, .i32⟩
  | 31 => ⟨S_, .i32⟩
  | 32 => ⟨S4x2048x1, .i32⟩
  | 33 => ⟨S4x2048x1, .i32⟩
  | 34 => ⟨S4x2048x1, .i32⟩
  | 35 => ⟨S4x2048x1, .i32⟩
  | 36 => ⟨S4x2048x1, .i32⟩
  | 37 => ⟨S4x2048x1, .i1⟩
  | 38 => ⟨S4x2048x1, .i32⟩
  | 39 => ⟨S_, .i32⟩
  | 40 => ⟨S4x2048x1, .i32⟩
  | 41 => ⟨S4x2048x1, .i1⟩
  | 42 => ⟨S4x2048x1, .i1⟩
  | 43 => ⟨S_, .i32⟩
  | 44 => ⟨S4x2048x1, .i32⟩
  | 45 => ⟨S4x2048x1, .i32⟩
  | 46 => ⟨S4x2048x1, .i32⟩
  | 47 => ⟨S4x2048x1, .i32⟩
  | 48 => ⟨S_, .i32⟩
  | 49 => ⟨S4x2048x1, .i32⟩
  | 50 => ⟨S4x2048x1, .i32⟩
  | 51 => ⟨S4x2048x1, .i32⟩
  | 52 => ⟨S4x2048x1, .i32⟩
  | 53 => ⟨S4x2048x1, .i32⟩
  | 54 => ⟨S4x2048x1, .i1⟩
  | 55 => ⟨S4x2048x1, .i32⟩
  | 56 => ⟨S_, .i32⟩
  | 57 => ⟨S4x2048x1, .i32⟩
  | 58 => ⟨S4x2048x1, .i1⟩
  | 59 => ⟨S4x2048x1, .i1⟩
  | 60 => ⟨S_, .i32⟩
  | 61 => ⟨S4x2048x1, .i32⟩
  | 62 => ⟨S4x2048x1, .i32⟩
  | 63 => ⟨S4x2048x1, .i32⟩
  | 64 => ⟨S4x2048x1, .i32⟩
  | 65 => ⟨S_, .i32⟩
  | 66 => ⟨S4x2048x1, .i32⟩
  | 67 => ⟨S4x2048x1, .i32⟩
  | 68 => ⟨S_, .i32⟩
  | 69 => ⟨S4x2048x1, .i32⟩
  | 70 => ⟨S4x2048x1, .i32⟩
  | 71 => ⟨S_, .i32⟩
  | 72 => ⟨S4x2048x1, .i32⟩
  | 73 => ⟨S4x2048x1, .i32⟩
  | 74 => ⟨S_, .i32⟩
  | 75 => ⟨S4x2048x1, .i32⟩
  | 76 => ⟨S4x2048x1, .i32⟩
  | 77 => ⟨S_, .i32⟩
  | 78 => ⟨S4x2048x1, .i32⟩
  | 79 => ⟨S4x2048x1, .i32⟩
  | 80 => ⟨S4x2048x1, .i1⟩
  | 81 => ⟨S4x2048x1, .i32⟩
  | 82 => ⟨S4x2048x1, .i32⟩
  | 83 => ⟨S_, .i32⟩
  | 84 => ⟨S4x2048x1, .i32⟩
  | 85 => ⟨S4x2048x1, .i1⟩
  | 86 => ⟨S4x2048x1, .i1⟩
  | 87 => ⟨S_, .i32⟩
  | 88 => ⟨S4x2048x1, .i32⟩
  | 89 => ⟨S4x2048x1, .i32⟩
  | 90 => ⟨S4x2048x1, .i32⟩
  | 91 => ⟨S4x2048x3584, .i32⟩
  | 92 => ⟨S4x2048x3584, .i32⟩
  | 93 => ⟨S_, .i32⟩
  | 94 => ⟨S4x2048x3584, .i32⟩
  | 95 => ⟨S4x2048x3584, .i32⟩
  | 96 => ⟨S_, .i32⟩
  | 97 => ⟨S3584, .i32⟩
  | 98 => ⟨S3584, .i32⟩
  | 99 => ⟨S_, .i32⟩
  | 100 => ⟨S3584, .i32⟩
  | 101 => ⟨S3584, .i32⟩
  | 102 => ⟨S_, .i32⟩
  | 103 => ⟨S3584, .i32⟩
  | 104 => ⟨S3584, .i32⟩
  | 105 => ⟨S1x1x3584, .i32⟩
  | 106 => ⟨S4x2048x3584, .i32⟩
  | 107 => ⟨S4x2048x3584, .i32⟩
  | 108 => ⟨S1x1x3584, .i32⟩
  | 109 => ⟨S4x2048x3584, .i32⟩
  | 110 => ⟨S4x2048x3584, .i32⟩
  | 111 => ⟨S1x1x3584, .i32⟩
  | 112 => ⟨S4x2048x3584, .i32⟩
  | 113 => ⟨S4x2048x3584, .i32⟩
  | 114 => ⟨S1x1x3584, .i32⟩
  | 115 => ⟨S4x2048x3584, .i32⟩
  | 116 => ⟨S4x2048x3584, .i32⟩
  | 117 => ⟨S_, .i32⟩
  | 118 => ⟨S3584, .i32⟩
  | 119 => ⟨S3584, .i32⟩
  | 120 => ⟨S_, .i32⟩
  | 121 => ⟨S3584, .i32⟩
  | 122 => ⟨S3584, .i32⟩
  | 123 => ⟨S1x1x3584, .i32⟩
  | 124 => ⟨S4x2048x3584, .i32⟩
  | 125 => ⟨S4x2048x3584, .i32⟩
  | 126 => ⟨S1x1x3584, .i32⟩
  | 127 => ⟨S4x2048x3584, .i32⟩
  | _ => ⟨S4x2048x3584, .i8⟩

abbrev hbmTy0_5 (i : Nat) : BufTy := match i % 128 with
  | 0 => ⟨S4x2048x3584, .i32⟩
  | 1 => ⟨S4x2048x3584, .i32⟩
  | 2 => ⟨S3584, .i32⟩
  | 3 => ⟨S1x1x3584, .i32⟩
  | 4 => ⟨S4x2048x3584, .i32⟩
  | 5 => ⟨S4x2048x3584, .i32⟩
  | 6 => ⟨S1x1x3584, .i32⟩
  | 7 => ⟨S4x2048x3584, .i32⟩
  | 8 => ⟨S4x2048x3584, .i32⟩
  | 9 => ⟨S_, .i32⟩
  | 10 => ⟨S_, .i32⟩
  | 11 => ⟨S_, .i32⟩
  | 12 => ⟨S4x2048x3584, .i32⟩
  | 13 => ⟨S4x2048x3584, .i32⟩
  | 14 => ⟨S_, .i32⟩
  | 15 => ⟨S4x2048x3584, .i32⟩
  | 16 => ⟨S4x2048x3584, .i32⟩
  | 17 => ⟨S4x2048x3584, .i8⟩
  | 18 => ⟨S8192x3584, .i8⟩
  | 19 => ⟨S4x2048x18944, .i16⟩
  | 20 => ⟨S8192x18944, .i16⟩
  | 21 => ⟨S8192x18944, .i8⟩
  | _ => ⟨S4x2048x3584, .i8⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x2048x3584, .i8⟩

abbrev bufTy : (tb : Table) → Fin (tcTables nBuf tb) → BufTy
  | .hbm, ⟨i, _⟩ => hbmTy i
  | _, _ => ⟨S4x2048x3584, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_5 : Ref sig .tc := ⟨.hbm, 62, rfl⟩
abbrev main_v44 : Ref sig .tc := ⟨.hbm, 63, rfl⟩
abbrev main_v45 : Ref sig .tc := ⟨.hbm, 64, rfl⟩
abbrev main_c_6 : Ref sig .tc := ⟨.hbm, 65, rfl⟩
abbrev main_c_7 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_13 : Ref sig .tc := ⟨.hbm, 93, rfl⟩
abbrev main_c_14 : Ref sig .tc := ⟨.hbm, 94, rfl⟩
abbrev main_v62 : Ref sig .tc := ⟨.hbm, 95, rfl⟩
abbrev main_c_15 : Ref sig .tc := ⟨.hbm, 96, rfl⟩
abbrev main_v63 : Ref sig .tc := ⟨.hbm, 97, rfl⟩
abbrev main_c_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_17 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_18 : Ref sig .tc := ⟨.hbm, 107, rfl⟩
abbrev main_v71 : Ref sig .tc := ⟨.hbm, 108, rfl⟩
abbrev main_v72 : Ref sig .tc := ⟨.hbm, 109, rfl⟩
abbrev main_c_19 : Ref sig .tc := ⟨.hbm, 110, rfl⟩
abbrev main_c_20 : Ref sig .tc := ⟨.hbm, 111, rfl⟩
abbrev main_v73 : Ref sig .tc := ⟨.hbm, 112, rfl⟩
abbrev main_c_21 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_22 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_23 : Ref sig .tc := ⟨.hbm, 124, rfl⟩
abbrev main_v83 : Ref sig .tc := ⟨.hbm, 125, rfl⟩
abbrev main_v84 : Ref sig .tc := ⟨.hbm, 126, rfl⟩
abbrev main_c_24 : Ref sig .tc := ⟨.hbm, 127, rfl⟩
abbrev main_c_25 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_c_26 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_27 : Ref sig .tc := ⟨.hbm, 148, rfl⟩
abbrev main_v98 : Ref sig .tc := ⟨.hbm, 149, rfl⟩
abbrev main_c_28 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_c_29 : Ref sig .tc := ⟨.hbm, 159, rfl⟩
abbrev main_v107 : Ref sig .tc := ⟨.hbm, 160, rfl⟩
abbrev main_v108 : Ref sig .tc := ⟨.hbm, 161, rfl⟩
abbrev main_c_30 : Ref sig .tc := ⟨.hbm, 162, rfl⟩
abbrev main_v109 : Ref sig .tc := ⟨.hbm, 163, rfl⟩
abbrev main_v110 : Ref sig .tc := ⟨.hbm, 164, rfl⟩
abbrev main_c_31 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_c_32 : Ref sig .tc := ⟨.hbm, 180, rfl⟩
abbrev main_v125 : Ref sig .tc := ⟨.hbm, 181, rfl⟩
abbrev main_v126 : Ref sig .tc := ⟨.hbm, 182, rfl⟩
abbrev main_c_33 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_c_34 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_c_35 : Ref sig .tc := ⟨.hbm, 202, rfl⟩
abbrev main_v144 : Ref sig .tc := ⟨.hbm, 203, rfl⟩
abbrev main_v145 : Ref sig .tc := ⟨.hbm, 204, rfl⟩
abbrev main_c_36 : Ref sig .tc := ⟨.hbm, 205, rfl⟩
abbrev main_v146 : Ref sig .tc := ⟨.hbm, 206, rfl⟩
abbrev main_v147 : Ref sig .tc := ⟨.hbm, 207, rfl⟩
abbrev main_c_37 : Ref sig .tc := ⟨.hbm, 208, rfl⟩
abbrev main_call2_v0 : Ref sig .tc := ⟨.hbm, 209, rfl⟩
abbrev main_call2_v1 : Ref sig .tc := ⟨.hbm, 210, rfl⟩
abbrev main_call2_v2 : Ref sig .tc := ⟨.hbm, 211, rfl⟩
abbrev main_call2_v3 : Ref sig .tc := ⟨.hbm, 212, rfl⟩
abbrev main_call2_v4 : Ref sig .tc := ⟨.hbm, 213, rfl⟩
abbrev main_call2_v5 : Ref sig .tc := ⟨.hbm, 214, rfl⟩
abbrev main_call2_v6 : Ref sig .tc := ⟨.hbm, 215, rfl⟩
abbrev main_call2_v7 : Ref sig .tc := ⟨.hbm, 216, rfl⟩
abbrev main_call2_v8 : Ref sig .tc := ⟨.hbm, 217, rfl⟩
abbrev main_call2_c : Ref sig .tc := ⟨.hbm, 218, rfl⟩
abbrev main_call2_v9 : Ref sig .tc := ⟨.hbm, 219, rfl⟩
abbrev main_call2_v10 : Ref sig .tc := ⟨.hbm, 220, rfl⟩
abbrev main_call2_v11 : Ref sig .tc := ⟨.hbm, 221, rfl⟩
abbrev main_call2_c_0 : Ref sig .tc := ⟨.hbm, 222, rfl⟩
abbrev main_call2_v12 : Ref sig .tc := ⟨.hbm, 223, rfl⟩
abbrev main_call2_v13 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_c_38 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_c_39 : Ref sig .tc := ⟨.hbm, 232, rfl⟩
abbrev main_v154 : Ref sig .tc := ⟨.hbm, 233, rfl⟩
abbrev main_v155 : Ref sig .tc := ⟨.hbm, 234, rfl⟩
abbrev main_c_40 : Ref sig .tc := ⟨.hbm, 235, rfl⟩
abbrev main_v156 : Ref sig .tc := ⟨.hbm, 236, rfl⟩
abbrev main_v157 : Ref sig .tc := ⟨.hbm, 237, rfl⟩
abbrev main_c_41 : Ref sig .tc := ⟨.hbm, 238, rfl⟩
abbrev main_v158 : Ref sig .tc := ⟨.hbm, 239, rfl⟩
abbrev main_call3_v0 : Ref sig .tc := ⟨.hbm, 240, rfl⟩
abbrev main_call3_v1 : Ref sig .tc := ⟨.hbm, 241, rfl⟩
abbrev main_call3_v2 : Ref sig .tc := ⟨.hbm, 242, rfl⟩
abbrev main_call3_v3 : Ref sig .tc := ⟨.hbm, 243, rfl⟩
abbrev main_call3_v4 : Ref sig .tc := ⟨.hbm, 244, rfl⟩
abbrev main_call3_c : Ref sig .tc := ⟨.hbm, 245, rfl⟩
abbrev main_call3_v5 : Ref sig .tc := ⟨.hbm, 246, rfl⟩
abbrev main_call3_v6 : Ref sig .tc := ⟨.hbm, 247, rfl⟩
abbrev main_call3_v7 : Ref sig .tc := ⟨.hbm, 248, rfl⟩
abbrev main_call3_c_0 : Ref sig .tc := ⟨.hbm, 249, rfl⟩
abbrev main_call3_v8 : Ref sig .tc := ⟨.hbm, 250, rfl⟩
abbrev main_call3_v9 : Ref sig .tc := ⟨.hbm, 251, rfl⟩
abbrev main_v159 : Ref sig .tc := ⟨.hbm, 252, rfl⟩
abbrev main_v160 : Ref sig .tc := ⟨.hbm, 253, rfl⟩
abbrev main_c_42 : Ref sig .tc := ⟨.hbm, 254, rfl⟩
abbrev main_v161 : Ref sig .tc := ⟨.hbm, 255, rfl⟩
abbrev main_v162 : Ref sig .tc := ⟨.hbm, 256, rfl⟩
abbrev main_call4_v0 : Ref sig .tc := ⟨.hbm, 257, rfl⟩
abbrev main_call4_v1 : Ref sig .tc := ⟨.hbm, 258, rfl⟩
abbrev main_call4_v2 : Ref sig .tc := ⟨.hbm, 259, rfl⟩
abbrev main_call4_v3 : Ref sig .tc := ⟨.hbm, 260, rfl⟩
abbrev main_call4_v4 : Ref sig .tc := ⟨.hbm, 261, rfl⟩
abbrev main_call4_c : Ref sig .tc := ⟨.hbm, 262, rfl⟩
abbrev main_call4_v5 : Ref sig .tc := ⟨.hbm, 263, rfl⟩
abbrev main_call4_v6 : Ref sig .tc := ⟨.hbm, 264, rfl⟩
abbrev main_call4_v7 : Ref sig .tc := ⟨.hbm, 265, rfl⟩
abbrev main_call4_c_0 : Ref sig .tc := ⟨.hbm, 266, rfl⟩
abbrev main_call4_v8 : Ref sig .tc := ⟨.hbm, 267, rfl⟩
abbrev main_call4_v9 : Ref sig .tc := ⟨.hbm, 268, rfl⟩
abbrev main_v163 : Ref sig .tc := ⟨.hbm, 269, rfl⟩
abbrev main_v164 : Ref sig .tc := ⟨.hbm, 270, rfl⟩
abbrev main_c_43 : Ref sig .tc := ⟨.hbm, 271, rfl⟩
abbrev main_v165 : Ref sig .tc := ⟨.hbm, 272, rfl⟩
abbrev main_v166 : Ref sig .tc := ⟨.hbm, 273, rfl⟩
abbrev main_call5_v0 : Ref sig .tc := ⟨.hbm, 274, rfl⟩
abbrev main_call5_v1 : Ref sig .tc := ⟨.hbm, 275, rfl⟩
abbrev main_call5_v2 : Ref sig .tc := ⟨.hbm, 276, rfl⟩
abbrev main_call5_v3 : Ref sig .tc := ⟨.hbm, 277, rfl⟩
abbrev main_call5_v4 : Ref sig .tc := ⟨.hbm, 278, rfl⟩
abbrev main_call5_c : Ref sig .tc := ⟨.hbm, 279, rfl⟩
abbrev main_call5_v5 : Ref sig .tc := ⟨.hbm, 280, rfl⟩
abbrev main_call5_v6 : Ref sig .tc := ⟨.hbm, 281, rfl⟩
abbrev main_call5_v7 : Ref sig .tc := ⟨.hbm, 282, rfl⟩
abbrev main_call5_c_0 : Ref sig .tc := ⟨.hbm, 283, rfl⟩
abbrev main_call5_v8 : Ref sig .tc := ⟨.hbm, 284, rfl⟩
abbrev main_call5_v9 : Ref sig .tc := ⟨.hbm, 285, rfl⟩
abbrev main_v167 : Ref sig .tc := ⟨.hbm, 286, rfl⟩
abbrev main_v168 : Ref sig .tc := ⟨.hbm, 287, rfl⟩
abbrev main_c_44 : Ref sig .tc := ⟨.hbm, 288, rfl⟩
abbrev main_v169 : Ref sig .tc := ⟨.hbm, 289, rfl⟩
abbrev main_v170 : Ref sig .tc := ⟨.hbm, 290, rfl⟩
abbrev main_call6_v0 : Ref sig .tc := ⟨.hbm, 291, rfl⟩
abbrev main_call6_v1 : Ref sig .tc := ⟨.hbm, 292, rfl⟩
abbrev main_call6_v2 : Ref sig .tc := ⟨.hbm, 293, rfl⟩
abbrev main_call6_v3 : Ref sig .tc := ⟨.hbm, 294, rfl⟩
abbrev main_call6_v4 : Ref sig .tc := ⟨.hbm, 295, rfl⟩
abbrev main_call6_c : Ref sig .tc := ⟨.hbm, 296, rfl⟩
abbrev main_call6_v5 : Ref sig .tc := ⟨.hbm, 297, rfl⟩
abbrev main_call6_v6 : Ref sig .tc := ⟨.hbm, 298, rfl⟩
abbrev main_call6_v7 : Ref sig .tc := ⟨.hbm, 299, rfl⟩
abbrev main_call6_c_0 : Ref sig .tc := ⟨.hbm, 300, rfl⟩
abbrev main_call6_v8 : Ref sig .tc := ⟨.hbm, 301, rfl⟩
abbrev main_call6_v9 : Ref sig .tc := ⟨.hbm, 302, rfl⟩
abbrev main_v171 : Ref sig .tc := ⟨.hbm, 303, rfl⟩
abbrev main_v172 : Ref sig .tc := ⟨.hbm, 304, rfl⟩
abbrev main_c_45 : Ref sig .tc := ⟨.hbm, 305, rfl⟩
abbrev main_v173 : Ref sig .tc := ⟨.hbm, 306, rfl⟩
abbrev main_v174 : Ref sig .tc := ⟨.hbm, 307, rfl⟩
abbrev main_call7_v0 : Ref sig .tc := ⟨.hbm, 308, rfl⟩
abbrev main_call7_v1 : Ref sig .tc := ⟨.hbm, 309, rfl⟩
abbrev main_call7_v2 : Ref sig .tc := ⟨.hbm, 310, rfl⟩
abbrev main_call7_v3 : Ref sig .tc := ⟨.hbm, 311, rfl⟩
abbrev main_call7_v4 : Ref sig .tc := ⟨.hbm, 312, rfl⟩
abbrev main_call7_c : Ref sig .tc := ⟨.hbm, 313, rfl⟩
abbrev main_call7_v5 : Ref sig .tc := ⟨.hbm, 314, rfl⟩
abbrev main_call7_v6 : Ref sig .tc := ⟨.hbm, 315, rfl⟩
abbrev main_call7_v7 : Ref sig .tc := ⟨.hbm, 316, rfl⟩
abbrev main_call7_c_0 : Ref sig .tc := ⟨.hbm, 317, rfl⟩
abbrev main_call7_v8 : Ref sig .tc := ⟨.hbm, 318, rfl⟩
abbrev main_call7_v9 : Ref sig .tc := ⟨.hbm, 319, rfl⟩
abbrev main_v175 : Ref sig .tc := ⟨.hbm, 320, rfl⟩
abbrev main_v176 : Ref sig .tc := ⟨.hbm, 321, rfl⟩
abbrev main_c_46 : Ref sig .tc := ⟨.hbm, 322, rfl⟩
abbrev main_v177 : Ref sig .tc := ⟨.hbm, 323, rfl⟩
abbrev main_v178 : Ref sig .tc := ⟨.hbm, 324, rfl⟩
abbrev main_call8_v0 : Ref sig .tc := ⟨.hbm, 325, rfl⟩
abbrev main_call8_v1 : Ref sig .tc := ⟨.hbm, 326, rfl⟩
abbrev main_call8_v2 : Ref sig .tc := ⟨.hbm, 327, rfl⟩
abbrev main_call8_v3 : Ref sig .tc := ⟨.hbm, 328, rfl⟩
abbrev main_call8_v4 : Ref sig .tc := ⟨.hbm, 329, rfl⟩
abbrev main_call8_c : Ref sig .tc := ⟨.hbm, 330, rfl⟩
abbrev main_call8_v5 : Ref sig .tc := ⟨.hbm, 331, rfl⟩
abbrev main_call8_v6 : Ref sig .tc := ⟨.hbm, 332, rfl⟩
abbrev main_call8_v7 : Ref sig .tc := ⟨.hbm, 333, rfl⟩
abbrev main_call8_c_0 : Ref sig .tc := ⟨.hbm, 334, rfl⟩
abbrev main_call8_v8 : Ref sig .tc := ⟨.hbm, 335, rfl⟩
abbrev main_call8_v9 : Ref sig .tc := ⟨.hbm, 336, rfl⟩
abbrev main_v179 : Ref sig .tc := ⟨.hbm, 337, rfl⟩
abbrev main_v180 : Ref sig .tc := ⟨.hbm, 338, rfl⟩
abbrev main_c_47 : Ref sig .tc := ⟨.hbm, 339, rfl⟩
abbrev main_v181 : Ref sig .tc := ⟨.hbm, 340, rfl⟩
abbrev main_v182 : Ref sig .tc := ⟨.hbm, 341, rfl⟩
abbrev main_call9_v0 : Ref sig .tc := ⟨.hbm, 342, rfl⟩
abbrev main_call9_v1 : Ref sig .tc := ⟨.hbm, 343, rfl⟩
abbrev main_call9_v2 : Ref sig .tc := ⟨.hbm, 344, rfl⟩
abbrev main_call9_v3 : Ref sig .tc := ⟨.hbm, 345, rfl⟩
abbrev main_call9_v4 : Ref sig .tc := ⟨.hbm, 346, rfl⟩
abbrev main_call9_c : Ref sig .tc := ⟨.hbm, 347, rfl⟩
abbrev main_call9_v5 : Ref sig .tc := ⟨.hbm, 348, rfl⟩
abbrev main_call9_v6 : Ref sig .tc := ⟨.hbm, 349, rfl⟩
abbrev main_call9_v7 : Ref sig .tc := ⟨.hbm, 350, rfl⟩
abbrev main_call9_c_0 : Ref sig .tc := ⟨.hbm, 351, rfl⟩
abbrev main_call9_v8 : Ref sig .tc := ⟨.hbm, 352, rfl⟩
abbrev main_call9_v9 : Ref sig .tc := ⟨.hbm, 353, rfl⟩
abbrev main_v183 : Ref sig .tc := ⟨.hbm, 354, rfl⟩
abbrev main_v184 : Ref sig .tc := ⟨.hbm, 355, rfl⟩
abbrev main_c_48 : Ref sig .tc := ⟨.hbm, 356, rfl⟩
abbrev main_v185 : Ref sig .tc := ⟨.hbm, 357, rfl⟩
abbrev main_v186 : Ref sig .tc := ⟨.hbm, 358, rfl⟩
abbrev main_call10_v0 : Ref sig .tc := ⟨.hbm, 359, rfl⟩
abbrev main_call10_v1 : Ref sig .tc := ⟨.hbm, 360, rfl⟩
abbrev main_call10_v2 : Ref sig .tc := ⟨.hbm, 361, rfl⟩
abbrev main_call10_v3 : Ref sig .tc := ⟨.hbm, 362, rfl⟩
abbrev main_call10_v4 : Ref sig .tc := ⟨.hbm, 363, rfl⟩
abbrev main_call10_c : Ref sig .tc := ⟨.hbm, 364, rfl⟩
abbrev main_call10_v5 : Ref sig .tc := ⟨.hbm, 365, rfl⟩
abbrev main_call10_v6 : Ref sig .tc := ⟨.hbm, 366, rfl⟩
abbrev main_call10_v7 : Ref sig .tc := ⟨.hbm, 367, rfl⟩
abbrev main_call10_c_0 : Ref sig .tc := ⟨.hbm, 368, rfl⟩
abbrev main_call10_v8 : Ref sig .tc := ⟨.hbm, 369, rfl⟩
abbrev main_call10_v9 : Ref sig .tc := ⟨.hbm, 370, rfl⟩
abbrev main_v187 : Ref sig .tc := ⟨.hbm, 371, rfl⟩
abbrev main_v188 : Ref sig .tc := ⟨.hbm, 372, rfl⟩
abbrev main_c_49 : Ref sig .tc := ⟨.hbm, 373, rfl⟩
abbrev main_v189 : Ref sig .tc := ⟨.hbm, 374, rfl⟩
abbrev main_v190 : Ref sig .tc := ⟨.hbm, 375, rfl⟩
abbrev main_call11_v0 : Ref sig .tc := ⟨.hbm, 376, rfl⟩
abbrev main_call11_v1 : Ref sig .tc := ⟨.hbm, 377, rfl⟩
abbrev main_call11_v2 : Ref sig .tc := ⟨.hbm, 378, rfl⟩
abbrev main_call11_v3 : Ref sig .tc := ⟨.hbm, 379, rfl⟩
abbrev main_call11_v4 : Ref sig .tc := ⟨.hbm, 380, rfl⟩
abbrev main_call11_c : Ref sig .tc := ⟨.hbm, 381, rfl⟩
abbrev main_call11_v5 : Ref sig .tc := ⟨.hbm, 382, rfl⟩
abbrev main_call11_v6 : Ref sig .tc := ⟨.hbm, 383, rfl⟩
abbrev main_call11_v7 : Ref sig .tc := ⟨.hbm, 384, rfl⟩
abbrev main_call11_c_0 : Ref sig .tc := ⟨.hbm, 385, rfl⟩
abbrev main_call11_v8 : Ref sig .tc := ⟨.hbm, 386, rfl⟩
abbrev main_call11_v9 : Ref sig .tc := ⟨.hbm, 387, rfl⟩
abbrev main_v191 : Ref sig .tc := ⟨.hbm, 388, rfl⟩
abbrev main_v192 : Ref sig .tc := ⟨.hbm, 389, rfl⟩
abbrev main_c_50 : Ref sig .tc := ⟨.hbm, 390, rfl⟩
abbrev main_v193 : Ref sig .tc := ⟨.hbm, 391, rfl⟩
abbrev main_v194 : Ref sig .tc := ⟨.hbm, 392, rfl⟩
abbrev main_call12_v0 : Ref sig .tc := ⟨.hbm, 393, rfl⟩
abbrev main_call12_v1 : Ref sig .tc := ⟨.hbm, 394, rfl⟩
abbrev main_call12_v2 : Ref sig .tc := ⟨.hbm, 395, rfl⟩
abbrev main_call12_v3 : Ref sig .tc := ⟨.hbm, 396, rfl⟩
abbrev main_call12_v4 : Ref sig .tc := ⟨.hbm, 397, rfl⟩
abbrev main_call12_c : Ref sig .tc := ⟨.hbm, 398, rfl⟩
abbrev main_call12_v5 : Ref sig .tc := ⟨.hbm, 399, rfl⟩
abbrev main_call12_v6 : Ref sig .tc := ⟨.hbm, 400, rfl⟩
abbrev main_call12_v7 : Ref sig .tc := ⟨.hbm, 401, rfl⟩
abbrev main_call12_c_0 : Ref sig .tc := ⟨.hbm, 402, rfl⟩
abbrev main_call12_v8 : Ref sig .tc := ⟨.hbm, 403, rfl⟩
abbrev main_call12_v9 : Ref sig .tc := ⟨.hbm, 404, rfl⟩
abbrev main_v195 : Ref sig .tc := ⟨.hbm, 405, rfl⟩
abbrev main_v196 : Ref sig .tc := ⟨.hbm, 406, rfl⟩
abbrev main_c_51 : Ref sig .tc := ⟨.hbm, 407, rfl⟩
abbrev main_v197 : Ref sig .tc := ⟨.hbm, 408, rfl⟩
abbrev main_v198 : Ref sig .tc := ⟨.hbm, 409, rfl⟩
abbrev main_call13_v0 : Ref sig .tc := ⟨.hbm, 410, rfl⟩
abbrev main_call13_v1 : Ref sig .tc := ⟨.hbm, 411, rfl⟩
abbrev main_call13_v2 : Ref sig .tc := ⟨.hbm, 412, rfl⟩
abbrev main_call13_v3 : Ref sig .tc := ⟨.hbm, 413, rfl⟩
abbrev main_call13_v4 : Ref sig .tc := ⟨.hbm, 414, rfl⟩
abbrev main_call13_c : Ref sig .tc := ⟨.hbm, 415, rfl⟩
abbrev main_call13_v5 : Ref sig .tc := ⟨.hbm, 416, rfl⟩
abbrev main_call13_v6 : Ref sig .tc := ⟨.hbm, 417, rfl⟩
abbrev main_call13_v7 : Ref sig .tc := ⟨.hbm, 418, rfl⟩
abbrev main_call13_c_0 : Ref sig .tc := ⟨.hbm, 419, rfl⟩
abbrev main_call13_v8 : Ref sig .tc := ⟨.hbm, 420, rfl⟩
abbrev main_call13_v9 : Ref sig .tc := ⟨.hbm, 421, rfl⟩
abbrev main_v199 : Ref sig .tc := ⟨.hbm, 422, rfl⟩
abbrev main_v200 : Ref sig .tc := ⟨.hbm, 423, rfl⟩
abbrev main_c_52 : Ref sig .tc := ⟨.hbm, 424, rfl⟩
abbrev main_v201 : Ref sig .tc := ⟨.hbm, 425, rfl⟩
abbrev main_v202 : Ref sig .tc := ⟨.hbm, 426, rfl⟩
abbrev main_call14_v0 : Ref sig .tc := ⟨.hbm, 427, rfl⟩
abbrev main_call14_v1 : Ref sig .tc := ⟨.hbm, 428, rfl⟩
abbrev main_call14_v2 : Ref sig .tc := ⟨.hbm, 429, rfl⟩
abbrev main_call14_v3 : Ref sig .tc := ⟨.hbm, 430, rfl⟩
abbrev main_call14_v4 : Ref sig .tc := ⟨.hbm, 431, rfl⟩
abbrev main_call14_c : Ref sig .tc := ⟨.hbm, 432, rfl⟩
abbrev main_call14_v5 : Ref sig .tc := ⟨.hbm, 433, rfl⟩
abbrev main_call14_v6 : Ref sig .tc := ⟨.hbm, 434, rfl⟩
abbrev main_call14_v7 : Ref sig .tc := ⟨.hbm, 435, rfl⟩
abbrev main_call14_c_0 : Ref sig .tc := ⟨.hbm, 436, rfl⟩
abbrev main_call14_v8 : Ref sig .tc := ⟨.hbm, 437, rfl⟩
abbrev main_call14_v9 : Ref sig .tc := ⟨.hbm, 438, rfl⟩
abbrev main_v203 : Ref sig .tc := ⟨.hbm, 439, rfl⟩
abbrev main_v204 : Ref sig .tc := ⟨.hbm, 440, rfl⟩
abbrev main_c_53 : Ref sig .tc := ⟨.hbm, 441, rfl⟩
abbrev main_v205 : Ref sig .tc := ⟨.hbm, 442, rfl⟩
abbrev main_v206 : Ref sig .tc := ⟨.hbm, 443, rfl⟩
abbrev main_call15_v0 : Ref sig .tc := ⟨.hbm, 444, rfl⟩
abbrev main_call15_v1 : Ref sig .tc := ⟨.hbm, 445, rfl⟩
abbrev main_call15_v2 : Ref sig .tc := ⟨.hbm, 446, rfl⟩
abbrev main_call15_v3 : Ref sig .tc := ⟨.hbm, 447, rfl⟩
abbrev main_call15_v4 : Ref sig .tc := ⟨.hbm, 448, rfl⟩
abbrev main_call15_c : Ref sig .tc := ⟨.hbm, 449, rfl⟩
abbrev main_call15_v5 : Ref sig .tc := ⟨.hbm, 450, rfl⟩
abbrev main_call15_v6 : Ref sig .tc := ⟨.hbm, 451, rfl⟩
abbrev main_call15_v7 : Ref sig .tc := ⟨.hbm, 452, rfl⟩
abbrev main_call15_c_0 : Ref sig .tc := ⟨.hbm, 453, rfl⟩
abbrev main_call15_v8 : Ref sig .tc := ⟨.hbm, 454, rfl⟩
abbrev main_call15_v9 : Ref sig .tc := ⟨.hbm, 455, rfl⟩
abbrev main_v207 : Ref sig .tc := ⟨.hbm, 456, rfl⟩
abbrev main_v208 : Ref sig .tc := ⟨.hbm, 457, rfl⟩
abbrev main_c_54 : Ref sig .tc := ⟨.hbm, 458, rfl⟩
abbrev main_v209 : Ref sig .tc := ⟨.hbm, 459, rfl⟩
abbrev main_v210 : Ref sig .tc := ⟨.hbm, 460, rfl⟩
abbrev main_call16_v0 : Ref sig .tc := ⟨.hbm, 461, rfl⟩
abbrev main_call16_v1 : Ref sig .tc := ⟨.hbm, 462, rfl⟩
abbrev main_call16_v2 : Ref sig .tc := ⟨.hbm, 463, rfl⟩
abbrev main_call16_v3 : Ref sig .tc := ⟨.hbm, 464, rfl⟩
abbrev main_call16_v4 : Ref sig .tc := ⟨.hbm, 465, rfl⟩
abbrev main_call16_c : Ref sig .tc := ⟨.hbm, 466, rfl⟩
abbrev main_call16_v5 : Ref sig .tc := ⟨.hbm, 467, rfl⟩
abbrev main_call16_v6 : Ref sig .tc := ⟨.hbm, 468, rfl⟩
abbrev main_call16_v7 : Ref sig .tc := ⟨.hbm, 469, rfl⟩
abbrev main_call16_c_0 : Ref sig .tc := ⟨.hbm, 470, rfl⟩
abbrev main_call16_v8 : Ref sig .tc := ⟨.hbm, 471, rfl⟩
abbrev main_call16_v9 : Ref sig .tc := ⟨.hbm, 472, rfl⟩
abbrev main_v211 : Ref sig .tc := ⟨.hbm, 473, rfl⟩
abbrev main_v212 : Ref sig .tc := ⟨.hbm, 474, rfl⟩
abbrev main_c_55 : Ref sig .tc := ⟨.hbm, 475, rfl⟩
abbrev main_v213 : Ref sig .tc := ⟨.hbm, 476, rfl⟩
abbrev main_v214 : Ref sig .tc := ⟨.hbm, 477, rfl⟩
abbrev main_call17_v0 : Ref sig .tc := ⟨.hbm, 478, rfl⟩
abbrev main_call17_v1 : Ref sig .tc := ⟨.hbm, 479, rfl⟩
abbrev main_call17_v2 : Ref sig .tc := ⟨.hbm, 480, rfl⟩
abbrev main_call17_v3 : Ref sig .tc := ⟨.hbm, 481, rfl⟩
abbrev main_call17_v4 : Ref sig .tc := ⟨.hbm, 482, rfl⟩
abbrev main_call17_c : Ref sig .tc := ⟨.hbm, 483, rfl⟩
abbrev main_call17_v5 : Ref sig .tc := ⟨.hbm, 484, rfl⟩
abbrev main_call17_v6 : Ref sig .tc := ⟨.hbm, 485, rfl⟩
abbrev main_call17_v7 : Ref sig .tc := ⟨.hbm, 486, rfl⟩
abbrev main_call17_c_0 : Ref sig .tc := ⟨.hbm, 487, rfl⟩
abbrev main_call17_v8 : Ref sig .tc := ⟨.hbm, 488, rfl⟩
abbrev main_call17_v9 : Ref sig .tc := ⟨.hbm, 489, rfl⟩
abbrev main_v215 : Ref sig .tc := ⟨.hbm, 490, rfl⟩
abbrev main_v216 : Ref sig .tc := ⟨.hbm, 491, rfl⟩
abbrev main_c_56 : Ref sig .tc := ⟨.hbm, 492, rfl⟩
abbrev main_v217 : Ref sig .tc := ⟨.hbm, 493, rfl⟩
abbrev main_v218 : Ref sig .tc := ⟨.hbm, 494, rfl⟩
abbrev main_call18_v0 : Ref sig .tc := ⟨.hbm, 495, rfl⟩
abbrev main_call18_v1 : Ref sig .tc := ⟨.hbm, 496, rfl⟩
abbrev main_call18_v2 : Ref sig .tc := ⟨.hbm, 497, rfl⟩
abbrev main_call18_v3 : Ref sig .tc := ⟨.hbm, 498, rfl⟩
abbrev main_call18_v4 : Ref sig .tc := ⟨.hbm, 499, rfl⟩
abbrev main_call18_c : Ref sig .tc := ⟨.hbm, 500, rfl⟩
abbrev main_call18_v5 : Ref sig .tc := ⟨.hbm, 501, rfl⟩
abbrev main_call18_v6 : Ref sig .tc := ⟨.hbm, 502, rfl⟩
abbrev main_call18_v7 : Ref sig .tc := ⟨.hbm, 503, rfl⟩
abbrev main_call18_c_0 : Ref sig .tc := ⟨.hbm, 504, rfl⟩
abbrev main_call18_v8 : Ref sig .tc := ⟨.hbm, 505, rfl⟩
abbrev main_call18_v9 : Ref sig .tc := ⟨.hbm, 506, rfl⟩
abbrev main_v219 : Ref sig .tc := ⟨.hbm, 507, rfl⟩
abbrev main_v220 : Ref sig .tc := ⟨.hbm, 508, rfl⟩
abbrev main_c_57 : Ref sig .tc := ⟨.hbm, 509, rfl⟩
abbrev main_v221 : Ref sig .tc := ⟨.hbm, 510, rfl⟩
abbrev main_v222 : Ref sig .tc := ⟨.hbm, 511, rfl⟩
abbrev main_call19_v0 : Ref sig .tc := ⟨.hbm, 512, rfl⟩
abbrev main_call19_v1 : Ref sig .tc := ⟨.hbm, 513, rfl⟩
abbrev main_call19_v2 : Ref sig .tc := ⟨.hbm, 514, rfl⟩
abbrev main_call19_v3 : Ref sig .tc := ⟨.hbm, 515, rfl⟩
abbrev main_call19_v4 : Ref sig .tc := ⟨.hbm, 516, rfl⟩
abbrev main_call19_c : Ref sig .tc := ⟨.hbm, 517, rfl⟩
abbrev main_call19_v5 : Ref sig .tc := ⟨.hbm, 518, rfl⟩
abbrev main_call19_v6 : Ref sig .tc := ⟨.hbm, 519, rfl⟩
abbrev main_call19_v7 : Ref sig .tc := ⟨.hbm, 520, rfl⟩
abbrev main_call19_c_0 : Ref sig .tc := ⟨.hbm, 521, rfl⟩
abbrev main_call19_v8 : Ref sig .tc := ⟨.hbm, 522, rfl⟩
abbrev main_call19_v9 : Ref sig .tc := ⟨.hbm, 523, rfl⟩
abbrev main_v223 : Ref sig .tc := ⟨.hbm, 524, rfl⟩
abbrev main_v224 : Ref sig .tc := ⟨.hbm, 525, rfl⟩
abbrev main_c_58 : Ref sig .tc := ⟨.hbm, 526, rfl⟩
abbrev main_v225 : Ref sig .tc := ⟨.hbm, 527, rfl⟩
abbrev main_v226 : Ref sig .tc := ⟨.hbm, 528, rfl⟩
abbrev main_call20_v0 : Ref sig .tc := ⟨.hbm, 529, rfl⟩
abbrev main_call20_v1 : Ref sig .tc := ⟨.hbm, 530, rfl⟩
abbrev main_call20_v2 : Ref sig .tc := ⟨.hbm, 531, rfl⟩
abbrev main_call20_v3 : Ref sig .tc := ⟨.hbm, 532, rfl⟩
abbrev main_call20_v4 : Ref sig .tc := ⟨.hbm, 533, rfl⟩
abbrev main_call20_c : Ref sig .tc := ⟨.hbm, 534, rfl⟩
abbrev main_call20_v5 : Ref sig .tc := ⟨.hbm, 535, rfl⟩
abbrev main_call20_v6 : Ref sig .tc := ⟨.hbm, 536, rfl⟩
abbrev main_call20_v7 : Ref sig .tc := ⟨.hbm, 537, rfl⟩
abbrev main_call20_c_0 : Ref sig .tc := ⟨.hbm, 538, rfl⟩
abbrev main_call20_v8 : Ref sig .tc := ⟨.hbm, 539, rfl⟩
abbrev main_call20_v9 : Ref sig .tc := ⟨.hbm, 540, rfl⟩
abbrev main_v227 : Ref sig .tc := ⟨.hbm, 541, rfl⟩
abbrev main_v228 : Ref sig .tc := ⟨.hbm, 542, rfl⟩
abbrev main_c_59 : Ref sig .tc := ⟨.hbm, 543, rfl⟩
abbrev main_v229 : Ref sig .tc := ⟨.hbm, 544, rfl⟩
abbrev main_v230 : Ref sig .tc := ⟨.hbm, 545, rfl⟩
abbrev main_call21_v0 : Ref sig .tc := ⟨.hbm, 546, rfl⟩
abbrev main_call21_v1 : Ref sig .tc := ⟨.hbm, 547, rfl⟩
abbrev main_call21_v2 : Ref sig .tc := ⟨.hbm, 548, rfl⟩
abbrev main_call21_v3 : Ref sig .tc := ⟨.hbm, 549, rfl⟩
abbrev main_call21_v4 : Ref sig .tc := ⟨.hbm, 550, rfl⟩
abbrev main_call21_c : Ref sig .tc := ⟨.hbm, 551, rfl⟩
abbrev main_call21_v5 : Ref sig .tc := ⟨.hbm, 552, rfl⟩
abbrev main_call21_v6 : Ref sig .tc := ⟨.hbm, 553, rfl⟩
abbrev main_call21_v7 : Ref sig .tc := ⟨.hbm, 554, rfl⟩
abbrev main_call21_c_0 : Ref sig .tc := ⟨.hbm, 555, rfl⟩
abbrev main_call21_v8 : Ref sig .tc := ⟨.hbm, 556, rfl⟩
abbrev main_call21_v9 : Ref sig .tc := ⟨.hbm, 557, rfl⟩
abbrev main_v231 : Ref sig .tc := ⟨.hbm, 558, rfl⟩
abbrev main_v232 : Ref sig .tc := ⟨.hbm, 559, rfl⟩
abbrev main_c_60 : Ref sig .tc := ⟨.hbm, 560, rfl⟩
abbrev main_v233 : Ref sig .tc := ⟨.hbm, 561, rfl⟩
abbrev main_v234 : Ref sig .tc := ⟨.hbm, 562, rfl⟩
abbrev main_call22_v0 : Ref sig .tc := ⟨.hbm, 563, rfl⟩
abbrev main_call22_v1 : Ref sig .tc := ⟨.hbm, 564, rfl⟩
abbrev main_call22_v2 : Ref sig .tc := ⟨.hbm, 565, rfl⟩
abbrev main_call22_v3 : Ref sig .tc := ⟨.hbm, 566, rfl⟩
abbrev main_call22_v4 : Ref sig .tc := ⟨.hbm, 567, rfl⟩
abbrev main_call22_c : Ref sig .tc := ⟨.hbm, 568, rfl⟩
abbrev main_call22_v5 : Ref sig .tc := ⟨.hbm, 569, rfl⟩
abbrev main_call22_v6 : Ref sig .tc := ⟨.hbm, 570, rfl⟩
abbrev main_call22_v7 : Ref sig .tc := ⟨.hbm, 571, rfl⟩
abbrev main_call22_c_0 : Ref sig .tc := ⟨.hbm, 572, rfl⟩
abbrev main_call22_v8 : Ref sig .tc := ⟨.hbm, 573, rfl⟩
abbrev main_call22_v9 : Ref sig .tc := ⟨.hbm, 574, rfl⟩
abbrev main_v235 : Ref sig .tc := ⟨.hbm, 575, rfl⟩
abbrev main_v236 : Ref sig .tc := ⟨.hbm, 576, rfl⟩
abbrev main_c_61 : Ref sig .tc := ⟨.hbm, 577, rfl⟩
abbrev main_v237 : Ref sig .tc := ⟨.hbm, 578, rfl⟩
abbrev main_v238 : Ref sig .tc := ⟨.hbm, 579, rfl⟩
abbrev main_c_62 : Ref sig .tc := ⟨.hbm, 580, rfl⟩
abbrev main_v239 : Ref sig .tc := ⟨.hbm, 581, rfl⟩
abbrev main_v240 : Ref sig .tc := ⟨.hbm, 582, rfl⟩
abbrev main_c_63 : Ref sig .tc := ⟨.hbm, 583, rfl⟩
abbrev main_v241 : Ref sig .tc := ⟨.hbm, 584, rfl⟩
abbrev main_v242 : Ref sig .tc := ⟨.hbm, 585, rfl⟩
abbrev main_c_64 : Ref sig .tc := ⟨.hbm, 586, rfl⟩
abbrev main_call23_v0 : Ref sig .tc := ⟨.hbm, 587, rfl⟩
abbrev main_call23_v1 : Ref sig .tc := ⟨.hbm, 588, rfl⟩
abbrev main_call23_v2 : Ref sig .tc := ⟨.hbm, 589, rfl⟩
abbrev main_call23_v3 : Ref sig .tc := ⟨.hbm, 590, rfl⟩
abbrev main_call23_v4 : Ref sig .tc := ⟨.hbm, 591, rfl⟩
abbrev main_call23_v5 : Ref sig .tc := ⟨.hbm, 592, rfl⟩
abbrev main_call23_v6 : Ref sig .tc := ⟨.hbm, 593, rfl⟩
abbrev main_call23_v7 : Ref sig .tc := ⟨.hbm, 594, rfl⟩
abbrev main_call23_c : Ref sig .tc := ⟨.hbm, 595, rfl⟩
abbrev main_call23_v8 : Ref sig .tc := ⟨.hbm, 596, rfl⟩
abbrev main_call23_v9 : Ref sig .tc := ⟨.hbm, 597, rfl⟩
abbrev main_call23_v10 : Ref sig .tc := ⟨.hbm, 598, rfl⟩
abbrev main_call23_c_0 : Ref sig .tc := ⟨.hbm, 599, rfl⟩
abbrev main_call23_v11 : Ref sig .tc := ⟨.hbm, 600, rfl⟩
abbrev main_call23_v12 : Ref sig .tc := ⟨.hbm, 601, rfl⟩
abbrev main_v243 : Ref sig .tc := ⟨.hbm, 602, rfl⟩
abbrev main_v244 : Ref sig .tc := ⟨.hbm, 603, rfl⟩
abbrev main_v245 : Ref sig .tc := ⟨.hbm, 604, rfl⟩
abbrev main_c_65 : Ref sig .tc := ⟨.hbm, 605, rfl⟩
abbrev main_v246 : Ref sig .tc := ⟨.hbm, 606, rfl⟩
abbrev main_v247 : Ref sig .tc := ⟨.hbm, 607, rfl⟩
abbrev main_c_66 : Ref sig .tc := ⟨.hbm, 608, rfl⟩
abbrev main_v248 : Ref sig .tc := ⟨.hbm, 609, rfl⟩
abbrev main_v249 : Ref sig .tc := ⟨.hbm, 610, rfl⟩
abbrev main_c_67 : Ref sig .tc := ⟨.hbm, 611, rfl⟩
abbrev main_v250 : Ref sig .tc := ⟨.hbm, 612, rfl⟩
abbrev main_v251 : Ref sig .tc := ⟨.hbm, 613, rfl⟩
abbrev main_c_68 : Ref sig .tc := ⟨.hbm, 614, rfl⟩
abbrev main_v252 : Ref sig .tc := ⟨.hbm, 615, rfl⟩
abbrev main_v253 : Ref sig .tc := ⟨.hbm, 616, rfl⟩
abbrev main_v254 : Ref sig .tc := ⟨.hbm, 617, rfl⟩
abbrev main_v255 : Ref sig .tc := ⟨.hbm, 618, rfl⟩
abbrev main_v256 : Ref sig .tc := ⟨.hbm, 619, rfl⟩
abbrev main_v257 : Ref sig .tc := ⟨.hbm, 620, rfl⟩
abbrev main_v258 : Ref sig .tc := ⟨.hbm, 621, rfl⟩
abbrev main_v259 : Ref sig .tc := ⟨.hbm, 622, rfl⟩
abbrev main_v260 : Ref sig .tc := ⟨.hbm, 623, rfl⟩
abbrev main_v261 : Ref sig .tc := ⟨.hbm, 624, rfl⟩
abbrev main_v262 : Ref sig .tc := ⟨.hbm, 625, rfl⟩
abbrev main_v263 : Ref sig .tc := ⟨.hbm, 626, rfl⟩
abbrev main_v264 : Ref sig .tc := ⟨.hbm, 627, rfl⟩
abbrev main_v265 : Ref sig .tc := ⟨.hbm, 628, rfl⟩
abbrev main_c_69 : Ref sig .tc := ⟨.hbm, 629, rfl⟩
abbrev main_v266 : Ref sig .tc := ⟨.hbm, 630, rfl⟩
abbrev main_v267 : Ref sig .tc := ⟨.hbm, 631, rfl⟩
abbrev main_c_70 : Ref sig .tc := ⟨.hbm, 632, rfl⟩
abbrev main_v268 : Ref sig .tc := ⟨.hbm, 633, rfl⟩
abbrev main_v269 : Ref sig .tc := ⟨.hbm, 634, rfl⟩
abbrev main_v270 : Ref sig .tc := ⟨.hbm, 635, rfl⟩
abbrev main_v271 : Ref sig .tc := ⟨.hbm, 636, rfl⟩
abbrev main_v272 : Ref sig .tc := ⟨.hbm, 637, rfl⟩
abbrev main_v273 : Ref sig .tc := ⟨.hbm, 638, rfl⟩
abbrev main_v274 : Ref sig .tc := ⟨.hbm, 639, rfl⟩
abbrev main_v275 : Ref sig .tc := ⟨.hbm, 640, rfl⟩
abbrev main_v276 : Ref sig .tc := ⟨.hbm, 641, rfl⟩
abbrev main_v277 : Ref sig .tc := ⟨.hbm, 642, rfl⟩
abbrev main_v278 : Ref sig .tc := ⟨.hbm, 643, rfl⟩
abbrev main_v279 : Ref sig .tc := ⟨.hbm, 644, rfl⟩
abbrev main_v280 : Ref sig .tc := ⟨.hbm, 645, rfl⟩
abbrev main_v281 : Ref sig .tc := ⟨.hbm, 646, rfl⟩
abbrev main_v282 : Ref sig .tc := ⟨.hbm, 647, rfl⟩
abbrev main_v283 : Ref sig .tc := ⟨.hbm, 648, rfl⟩
abbrev main_c_71 : Ref sig .tc := ⟨.hbm, 649, rfl⟩
abbrev main_c_72 : Ref sig .tc := ⟨.hbm, 650, rfl⟩
abbrev main_call24_v0 : Ref sig .tc := ⟨.hbm, 651, rfl⟩
abbrev main_call24_v1 : Ref sig .tc := ⟨.hbm, 652, rfl⟩
abbrev main_call24_v2 : Ref sig .tc := ⟨.hbm, 653, rfl⟩
abbrev main_call24_v3 : Ref sig .tc := ⟨.hbm, 654, rfl⟩
abbrev main_call24_v4 : Ref sig .tc := ⟨.hbm, 655, rfl⟩
abbrev main_v284 : Ref sig .tc := ⟨.hbm, 656, rfl⟩
abbrev main_v285 : Ref sig .tc := ⟨.hbm, 657, rfl⟩
abbrev main_v286 : Ref sig .tc := ⟨.hbm, 658, rfl⟩
abbrev main_v287 : Ref sig .tc := ⟨.hbm, 659, rfl⟩
abbrev main_v288 : Ref sig .tc := ⟨.hbm, 660, rfl⟩
abbrev main_v289 : Ref sig .tc := ⟨.hbm, 661, rfl⟩

abbrev nD : Nat := 1
abbrev τ : Topo := Topo.v7x

variable {F : FTy → Type} [FloatOps F]
-- ==== Proof.Operands.lean ====
module
public import proofs.«01_k».proof.Proof.Gen.KernelIdeal.Value
public import Idealize.ShloMosaic.Lib.Pointwise
public import Idealize.ShloMosaic.Lib.StableHlo
@[expose] public section
set_option maxRecDepth 16384
noncomputable section
namespace Cert.Proof
open Idealize.ShloMosaic Idealize.ShloMosaic.TcCoe Idealize.SL.Sem Idealize.ShloMosaic.Tactic
open Cert.KernelIdeal Cert.KernelIdeal.Gen
variable (m : (ℓ : Loc nD τ sig) → Buf (Elt Ideal) ℓ) (c : Dev nD)

/-- The first parameters, stacked: bias, multiplier and exponent. -/
theorem V3_at (l : Fin 18944) :
    (V m c main_v3 : S3x18944.Idx → BitVec 32) (ix2 0 l) = (m ((c : Thread nD τ).loc main_arg2) : S18944.Idx → BitVec 32) (ix1 l) ∧
    (V m c main_v3 : S3x18944.Idx → BitVec 32) (ix2 1 l) = (m ((c : Thread nD τ).loc main_arg3) : S18944.Idx → BitVec 32) (ix1 l) ∧
    (V m c main_v3 : S3x18944.Idx → BitVec 32) (ix2 2 l) = (m ((c : Thread nD τ).loc main_arg4) : S18944.Idx → BitVec 32) (ix1 l) := by
  refine ⟨?_, ?_, ?_⟩ <;>
    (show StableHlo.after hostOps0 _ _ _ = _; after_results_simp; pointwise []; after_results_simp; pointwise [])

/-- The second parameters, stacked: bias, multiplier and exponent of the second product, multiplier and exponent of the normalization, and the last offset. -/
theorem V10_at (l : Fin 3584) :
    (V m c main_v10 : S6x3584.Idx → BitVec 32) (ix2 0 l) = (m ((c : Thread nD τ).loc main_arg6) : S3584.Idx → BitVec 32) (ix1 l) ∧
    (V m c main_v10 : S6x3584.Idx → BitVec 32) (ix2 1 l) = (m ((c : Thread nD τ).loc main_arg7) : S3584.Idx → BitVec 32) (ix1 l) ∧
    (V m c main_v10 : S6x3584.Idx → BitVec 32) (ix2 2 l) = (m ((c : Thread nD τ).loc main_arg8) : S3584.Idx → BitVec 32) (ix1 l) ∧
    (V m c main_v10 : S6x3584.Idx → BitVec 32) (ix2 3 l) = (m ((c : Thread nD τ).loc main_arg9) : S3584.Idx → BitVec 32) (ix1 l) ∧
    (V m c main_v10 : S6x3584.Idx → BitVec 32) (ix2 4 l) = (m ((c : Thread nD τ).loc main_arg10) : S3584.Idx → BitVec 32) (ix1 l) ∧
    (V m c main_v10 : S6x3584.Idx → BitVec 32) (ix2 5 l) = (m ((c : Thread nD τ).loc main_arg11) : S3584.Idx → BitVec 32) (ix1 l) := by
  refine ⟨?_, ?_, ?_, ?_, ?_, ?_⟩ <;>
    (show StableHlo.after hostOps0 _ _ _ = _; after_results_simp; pointwise []; after_results_simp; pointwise [])

/-- The flattened `x` at a row is `x` at the row's batch and position. -/
theorem V11 (b : Fin 4) (s : Fin 2048) (j : Fin 3584) (R : Fin 8192) (hR : R.val = 2048 * b.val + s.val) : (V m c main_v11 : S8192x3584.Idx → BitVec 8) (ix2 R j) = (m ((c : Thread nD τ).loc main_arg0) : S4x2048x3584.Idx → BitVec 8) (ix3 b s j) := by
  have hl : 2048 * b.val + s.val < 8192 := by omega
  rw [show R = ⟨2048 * b.val + s.val, hl⟩ from Fin.ext hR]
  show StableHlo.after hostOps0 _ _ _ = _
  after_results_simp
  pointwise []

/-- Which block of `x` a grid point reads: its row block. -/
theorem idx0 : ∀ t : Fin cfg0.N, win0_0.index t (0 : Fin 2) = t.val / 37 ∧ win0_0.index t (1 : Fin 2) = 0 :=
  (by decide +kernel : ∀ t : Fin grid0.N, _)
/-- Which block of the first weights a grid point reads: its hidden block. -/
theorem idx1 : ∀ t : Fin cfg0.N, win0_1.index t (0 : Fin 2) = 0 ∧ win0_1.index t (1 : Fin 2) = t.val % 37 :=
  (by decide +kernel : ∀ t : Fin grid0.N, _)
/-- Which block of the first parameters a grid point reads: its hidden block. -/
theorem idx2 : ∀ t : Fin cfg0.N, win0_2.index t (0 : Fin 2) = 0 ∧ win0_2.index t (1 : Fin 2) = t.val % 37 :=
  (by decide +kernel : ∀ t : Fin grid0.N, _)
/-- Which block of the second weights a grid point reads: its hidden block. -/
theorem idx3 : ∀ t : Fin cfg0.N, win0_3.index t (0 : Fin 2) = t.val % 37 ∧ win0_3.index t (1 : Fin 2) = 0 :=
  (by decide +kernel : ∀ t : Fin grid0.N, _)
/-- Every grid point reads the second parameters whole. -/
theorem idx4 : ∀ t : Fin cfg0.N, win0_4.index t (0 : Fin 2) = 0 ∧ win0_4.index t (1 : Fin 2) = 0 :=
  (by decide +kernel : ∀ t : Fin grid0.N, _)

/-- The block of `x` a grid point reads, at an index, is the operand at the shifted index. -/
theorem iblk0_at (t : Fin cfg0.N) (R : Fin 512) (k : Fin 3584) (R' : Fin 8192) (k' : Fin 3584)
    (hR : R'.val = t.val / 37 * 512 + R.val) (hk : k'.val = k.val) :
    (iblk m c 0 t : S512x3584.Idx → BitVec 8) (ix2 R k) = (V m c main_v11 : S8192x3584.Idx → BitVec 8) (ix2 R' k') := by
  unfold iblk
  rw [View.read_apply]
  show (V m c main_v11 : S8192x3584.Idx → BitVec 8) _ = _
  congr 1
  funext a
  apply Fin.ext
  obtain ⟨e0, e1⟩ := idx0 t
  match a with
  | ⟨0, _⟩ =>
    show win0_0.index t 0 * 512 + 1 * R.val = R'.val
    rw [e0, hR]; omega
  | ⟨1, _⟩ =>
    show win0_0.index t 1 * 3584 + 1 * k.val = k'.val
    rw [e1, hk]; omega

/-- The block of the first weights a grid point reads, at an index, is the operand at the shifted index. -/
theorem iblk1_at (t : Fin cfg0.N) (R : Fin 3584) (k : Fin 512) (R' : Fin 3584) (k' : Fin 18944)
    (hR : R'.val = R.val) (hk : k'.val = t.val % 37 * 512 + k.val) :
    (iblk m c 1 t : S3584x512.Idx → BitVec 8) (ix2 R k) = (V m c main_arg1 : S3584x18944.Idx → BitVec 8) (ix2 R' k') := by
  unfold iblk
  rw [View.read_apply]
  show (V m c main_arg1 : S3584x18944.Idx → BitVec 8) _ = _
  congr 1
  funext a
  apply Fin.ext
  obtain ⟨e0, e1⟩ := idx1 t
  match a with
  | ⟨0, _⟩ =>
    show win0_1.index t 0 * 3584 + 1 * R.val = R'.val
    rw [e0, hR]; omega
  | ⟨1, _⟩ =>
    show win0_1.index t 1 * 512 + 1 * k.val = k'.val
    rw [e1, hk]; omega

/-- The block of the first parameters a grid point reads, at an index, is the operand at the shifted index. -/
theorem iblk2_at (t : Fin cfg0.N) (R : Fin 3) (k : Fin 512) (R' : Fin 3) (k' : Fin 18944)
    (hR : R'.val = R.val) (hk : k'.val = t.val % 37 * 512 + k.val) :
    (iblk m c 2 t : S3x512.Idx → BitVec 32) (ix2 R k) = (V m c main_v3 : S3x18944.Idx → BitVec 32) (ix2 R' k') := by
  unfold iblk
  rw [View.read_apply]
  show (V m c main_v3 : S3x18944.Idx → BitVec 32) _ = _
  congr 1
  funext a
  apply Fin.ext
  obtain ⟨e0, e1⟩ := idx2 t
  match a with
  | ⟨0, _⟩ =>
    show win0_2.index t 0 * 3 + 1 * R.val = R'.val
    rw [e0, hR]; omega
  | ⟨1, _⟩ =>
    show win0_2.index t 1 * 512 + 1 * k.val = k'.val
    rw [e1, hk]; omega

/-- The block of the second weights a grid point reads, at an index, is the operand at the shifted index. -/
theorem iblk3_at (t : Fin cfg0.N) (R : Fin 512) (k : Fin 3584) (R' : Fin 18944) (k' : Fin 3584)
    (hR : R'.val = t.val % 37 * 512 + R.val) (hk : k'.val = k.val) :
    (iblk m c 3 t : S512x3584.Idx → BitVec 8) (ix2 R k) = (V m c main_arg5 : S18944x3584.Idx → BitVec 8) (ix2 R' k') := by
  unfold iblk
  rw [View.read_apply]
  show (V m c main_arg5 : S18944x3584.Idx → BitVec 8) _ = _
  congr 1
  funext a
  apply Fin.ext
  obtain ⟨e0, e1⟩ := idx3 t
  match a with
  | ⟨0, _⟩ =>
    show win0_3.index t 0 * 512 + 1 * R.val = R'.val
    rw [e0, hR]; omega
  | ⟨1, _⟩ =>
    show win0_3.index t 1 * 3584 + 1 * k.val = k'.val
    rw [e1, hk]; omega

/-- The block of the second parameters a grid point reads, at an index, is the operand at the shifted index. -/
theorem iblk4_at (t : Fin cfg0.N) (R : Fin 6) (k : Fin 3584) (R' : Fin 6) (k' : Fin 3584)
    (hR : R'.val = R.val) (hk : k'.val = k.val) :
    (iblk m c 4 t : S6x3584.Idx → BitVec 32) (ix2 R k) = (V m c main_v10 : S6x3584.Idx → BitVec 32) (ix2 R' k') := by
  unfold iblk
  rw [View.read_apply]
  show (V m c main_v10 : S6x3584.Idx → BitVec 32) _ = _
  congr 1
  funext a
  apply Fin.ext
  obtain ⟨e0, e1⟩ := idx4 t
  match a with
  | ⟨0, _⟩ =>
    show win0_4.index t 0 * 6 + 1 * R.val = R'.val
    rw [e0, hR]; omega
  | ⟨1, _⟩ =>
    show win0_4.index t 1 * 3584 + 1 * k.val = k'.val
    rw [e1, hk]; omega

end Cert.Proof
-- ==== Proof.Requant.lean ====
module
public import Idealize.ShloMosaic.Lib.Pointwise
@[expose] public section
namespace Cert.Proof
open Idealize.ShloMosaic

/-- An arithmetic right shift of a 32-bit word, on any unit and by any amount, is a shift by the amount cut at 31. -/
theorem shrsi_eq (u : ArithUnit) (x y : BitVec 32) : IntOp.shrsi u x y = x.sshiftRight (min y.toNat 31) := by
  unfold IntOp.shrsi IntOp.cornerWord
  split
  · rename_i h
    rw [BitVec.sshiftRight_eq', Nat.min_eq_left (by omega)]
  · rename_i h
    rw [Nat.min_eq_right (by omega)]
    simp only [ne_eq, not_true_eq_false, if_false]
    have key : (if x.msb = true then BitVec.allOnes 32 else 0#32) = x.sshiftRight 31 := by
      ext i hi
      rw [BitVec.getElem_sshiftRight]
      by_cases h0 : i = 0
      · subst h0
        cases hx : x.msb <;> simp [BitVec.msb_eq_getLsbD_last] at hx ⊢ <;> exact hx
      · rw [dif_neg (by omega)]
        cases hx : x.msb
        · simp
        · rw [if_pos rfl]; exact BitVec.getElem_allOnes _ hi
    cases u <;> exact key

/-- A left shift of a 32-bit word, on any unit: zero when the amount is not below 32. -/
theorem shli_eq (u : ArithUnit) (x y : BitVec 32) : IntOp.shli u x y = if y.toNat < 32 then x <<< y.toNat else 0#32 := by
  unfold IntOp.shli IntOp.cornerWord
  split
  · rfl
  · cases u <;> rfl

/-- The dyadic rescaling of the reference: `a * m / 2^k` rounded to nearest, in two halves. -/
def rq (a m k : BitVec 32) : BitVec 32 :=
  IntOp.shrsi .host (IntOp.addi (IntOp.muli (IntOp.shrsi .host a (IntOp.minsi k 15#32)) m)
    (IntOp.shrsi .host (IntOp.addi (IntOp.muli (IntOp.andi a (IntOp.subi (IntOp.shli .host 1#32 (IntOp.minsi k 15#32)) 1#32)) m)
      (IntOp.shli .host 1#32 (IntOp.subi k 1#32))) (IntOp.minsi k 15#32))) (IntOp.subi k (IntOp.minsi k 15#32))

/-- The kernel's low shift for an exponent. -/
def kLow (k : BitVec 32) : BitVec 32 :=
  Scalar.select (IntOp.cmpi .slt (IntOp.minsi k 15#32) 0#32) 31#32 (IntOp.minsi k 15#32)
/-- The kernel's mask of the low bits. -/
def kMask (k : BitVec 32) : BitVec 32 :=
  Scalar.select (IntOp.cmpi .slt (IntOp.minsi k 15#32) 0#32) 4294967295#32 (IntOp.subi (IntOp.shli .vector 1#32 (kLow k)) 1#32)
/-- The kernel's rounding term. -/
def kRnd (k : BitVec 32) : BitVec 32 :=
  Scalar.select (IntOp.andi (IntOp.cmpi .sge (IntOp.subi k 1#32) 0#32) (IntOp.cmpi .sle (IntOp.subi k 1#32) 31#32))
    (IntOp.shli .vector 1#32 (IntOp.andi (IntOp.subi k 1#32) 31#32)) 0#32
/-- The kernel's remaining shift. -/
def kRest (k : BitVec 32) : BitVec 32 := IntOp.minsi (IntOp.subi k (IntOp.minsi k 15#32)) 31#32

/-- The kernel's dyadic rescaling, from the derived rows. -/
def krq (a m k : BitVec 32) : BitVec 32 :=
  IntOp.shrsi .vector (IntOp.addi (IntOp.muli (IntOp.shrsi .vector a (kLow k)) m)
    (IntOp.shrsi .vector (IntOp.addi (IntOp.muli (IntOp.andi a (kMask k)) m) (kRnd k)) (kLow k))) (kRest k)

/-- A negative word has its top bit set. -/
theorem toNat_of_neg (k : BitVec 32) (h : k.toInt < 0) : 2 ^ 31 ≤ k.toNat := by
  rw [BitVec.toInt_eq_toNat_cond] at h; split at h <;> omega
/-- A word that is not negative is its own natural number. -/
theorem toNat_of_nonneg (k : BitVec 32) (h : 0 ≤ k.toInt) : k.toNat = k.toInt.toNat ∧ k.toNat < 2 ^ 31 := by
  have := k.isLt
  rw [BitVec.toInt_eq_toNat_cond] at *; split at h <;> split <;> omega

/-- A word below 2^31 is not negative. -/
theorem nonneg_of_toNat (k : BitVec 32) (h : k.toNat < 2 ^ 31) : 0 ≤ k.toInt := by
  rw [BitVec.toInt_eq_toNat_cond, if_pos (by omega)]; omega

/-- The smaller of a negative word and one that is not. -/
theorem minsi_neg (k : BitVec 32) (h : k.toInt < 0) (c : BitVec 32) (hc : 0 ≤ c.toInt) : IntOp.minsi k c = k := by
  unfold IntOp.minsi; rw [if_pos]; simp [BitVec.slt]; omega

/-- The smaller of two words that are not negative. -/
theorem minsi_nonneg (k c : BitVec 32) (h : 0 ≤ k.toInt) (hc : 0 ≤ c.toInt) : (IntOp.minsi k c).toNat = min k.toNat c.toNat := by
  have h1 := toNat_of_nonneg k h
  have h2 := toNat_of_nonneg c hc
  unfold IntOp.minsi; simp only [BitVec.slt]; split <;> simp_all <;> omega

/-- Selecting by a Boolean. -/
theorem select_ofBool {α : Type} (b : Bool) (x y : α) : Scalar.select (BitVec.ofBool b) x y = if b then x else y := by
  cases b <;> rfl

/-- The kernel's guarded low shift amount acts as the host's. -/
theorem kLow_eq (k : BitVec 32) : (kLow k).toNat = min (IntOp.minsi k 15#32).toNat 31 := by
  unfold kLow IntOp.cmpi
  rw [select_ofBool]
  rcases lt_or_ge k.toInt 0 with h | h
  · rw [minsi_neg k h _ (by decide)]
    have := toNat_of_neg k h
    rw [if_pos (by simpa [BitVec.slt] using h)]
    show 31 = _
    omega
  · have := minsi_nonneg k 15#32 h (by decide)
    have h15 : (15#32).toNat = 15 := rfl
    rw [if_neg, this]
    · omega
    · simp only [BitVec.slt, decide_eq_true_eq, not_lt]
      exact nonneg_of_toNat _ (by omega)

/-- The kernel's mask is the host's. -/
theorem kMask_eq (k : BitVec 32) : kMask k = IntOp.subi (IntOp.shli .host 1#32 (IntOp.minsi k 15#32)) 1#32 := by
  unfold kMask IntOp.cmpi
  rw [select_ofBool]
  rcases lt_or_ge k.toInt 0 with h | h
  · rw [minsi_neg k h _ (by decide)]
    have := toNat_of_neg k h
    rw [if_pos (by simpa [BitVec.slt] using h), shli_eq, if_neg (by omega)]
    rfl
  · have := minsi_nonneg k 15#32 h (by decide)
    have h15 : (15#32).toNat = 15 := rfl
    rw [if_neg]
    · rw [shli_eq, shli_eq, kLow_eq, if_pos (by omega), if_pos (by omega), Nat.min_eq_left (by omega)]
    · simp only [BitVec.slt, decide_eq_true_eq, not_lt]
      exact nonneg_of_toNat _ (by omega)

/-- The kernel's rounding term is the host's. -/
theorem kRnd_eq (k : BitVec 32) : kRnd k = IntOp.shli .host 1#32 (IntOp.subi k 1#32) := by
  unfold kRnd
  generalize IntOp.subi k 1#32 = j
  unfold IntOp.cmpi
  rw [show ∀ a b : Bool, IntOp.andi (BitVec.ofBool a) (BitVec.ofBool b) = BitVec.ofBool (a && b) by decide, select_ofBool, shli_eq, shli_eq]
  have h0 : (0#32).sle j = decide (0 ≤ j.toInt) := by simp [BitVec.sle]
  have h1 : j.sle 31#32 = decide (j.toInt ≤ 31) := by simp [BitVec.sle]
  simp only [h0, h1, Bool.and_eq_true, decide_eq_true_eq]
  have ha : (IntOp.andi j 31#32).toNat = j.toNat % 32 := by
    unfold IntOp.andi; rw [BitVec.toNat_and]; exact Nat.and_two_pow_sub_one_eq_mod _ 5
  rw [ha]
  have hj := j.isLt
  rw [BitVec.toInt_eq_toNat_cond]
  by_cases hlt : j.toNat < 32
  · rw [if_pos (by split <;> omega), if_pos (by omega), if_pos hlt, Nat.mod_eq_of_lt hlt]
  · rw [if_neg (by split <;> omega), if_neg hlt]

/-- The kernel's remaining shift amount acts as the host's. -/
theorem kRest_eq (k : BitVec 32) : min (kRest k).toNat 31 = min (IntOp.subi k (IntOp.minsi k 15#32)).toNat 31 := by
  unfold kRest
  rcases lt_or_ge k.toInt 0 with h | h
  · rw [minsi_neg k h _ (by decide)]
    simp [IntOp.subi]; rfl
  · have := minsi_nonneg k 15#32 h (by decide)
    have h15 : (15#32).toNat = 15 := rfl
    have hk := toNat_of_nonneg k h
    have hs : (IntOp.subi k (IntOp.minsi k 15#32)).toNat = k.toNat - min k.toNat 15 := by
      unfold IntOp.subi; rw [BitVec.toNat_sub, this]; omega
    have hn : 0 ≤ (IntOp.subi k (IntOp.minsi k 15#32)).toInt := by
      rw [BitVec.toInt_eq_toNat_cond, if_pos (by omega)]; omega
    rw [minsi_nonneg _ _ hn (by decide)]
    have : (31#32).toNat = 31 := rfl
    omega

/-- The kernel's dyadic rescaling is the reference's, for every exponent. -/
theorem krq_eq (a m k : BitVec 32) : krq a m k = rq a m k := by
  unfold krq rq
  simp only [shrsi_eq, kMask_eq, kRnd_eq, kLow_eq, kRest_eq, Nat.min_assoc, Nat.min_self]
end Cert.Proof
-- ==== Proof.Reals.lean ====
module
public import Idealize.ShloMosaic.Lib.Pointwise
public import proofs.«01_k».proof.Proof.Requant
@[expose] public section
noncomputable section
namespace Cert.Proof
open Idealize.ShloMosaic

/-- An integer as an extended real. -/
abbrev ri (n : ℤ) : EReal := ((n : ℝ) : EReal)

/-- Adding two reals that are integers adds the integers. -/
theorem ri_add (a b : ℤ) : ri a + ri b = ri (a + b) := by simp [ri]
/-- Subtracting them subtracts the integers. -/
theorem ri_sub (a b : ℤ) : ri a - ri b = ri (a - b) := by simp [ri]
/-- Multiplying them multiplies the integers. -/
theorem ri_mul (a b : ℤ) : ri a * ri b = ri (a * b) := by simp [ri]
/-- Negating one negates the integer. -/
theorem ri_neg (a : ℤ) : -ri a = ri (-a) := by simp [ri]
/-- They are ordered as the integers. -/
theorem ri_le (a b : ℤ) : ri a ≤ ri b ↔ a ≤ b := by simp [ri]
/-- The larger of the two. -/
theorem ri_max (a b : ℤ) : max (ri a) (ri b) = ri (max a b) := by
  rcases le_total a b with h | h
  · rw [max_eq_right h, max_eq_right ((ri_le a b).2 h)]
  · rw [max_eq_left h, max_eq_left ((ri_le b a).2 h)]
/-- The smaller of the two. -/
theorem ri_min (a b : ℤ) : min (ri a) (ri b) = ri (min a b) := by
  rcases le_total a b with h | h
  · rw [min_eq_left h, min_eq_left ((ri_le a b).2 h)]
  · rw [min_eq_right h, min_eq_right ((ri_le b a).2 h)]
/-- A finite sum of reals that are integers is the integers' sum. -/
theorem ri_sum {ι : Type} (s : Finset ι) (f : ι → ℤ) : ∑ i ∈ s, ri (f i) = ri (∑ i ∈ s, f i) := by
  classical
  induction s using Finset.induction_on with
  | empty => simp [ri]
  | insert a s ha ih => rw [Finset.sum_insert ha, Finset.sum_insert ha, ih, ri_add]

/-- Rounding to even leaves what is strictly nearest. -/
theorem round_of_near (r : ℝ) (n : ℤ) (h1 : r - n < 1 / 2) (h2 : -(1 / 2) < r - n) : Ideal.roundHalfEven r = n := by
  unfold Ideal.roundHalfEven
  rcases le_or_gt (n : ℝ) r with h | h
  · have hf : ⌊r⌋ = n := Int.floor_eq_iff.2 ⟨h, by linarith⟩
    simp only [hf, if_pos h1]
  · have hf : ⌊r⌋ = n - 1 := Int.floor_eq_iff.2 ⟨by push_cast; linarith, by push_cast; linarith⟩
    simp only [hf]
    rw [if_neg (by push_cast; linarith), if_pos (by push_cast; linarith)]
    ring
/-- Rounding to the nearest integer moves a real by at most a half. -/
theorem round_abs_le (r : ℝ) : r - Ideal.roundHalfEven r ≤ 1 / 2 ∧ -(1 / 2) ≤ r - Ideal.roundHalfEven r := by
  have h1 := Int.floor_le r
  have h2 := Int.lt_floor_add_one r
  unfold Ideal.roundHalfEven
  simp only
  split_ifs <;> (try push_cast) <;> constructor <;> linarith
/-- Rounding leaves an integer alone. -/
theorem round_int (n : ℤ) : Ideal.roundHalfEven (n : ℝ) = n := round_of_near _ _ (by norm_num) (by norm_num)
/-- The float rounding leaves an integer alone. -/
theorem roundeven_ri (n : ℤ) : Ideal.liftRound Ideal.roundHalfEven (ri n) = ri n := by
  rw [Ideal.liftRound_coe, round_int]

/-- The conversion of an integer value in range to a word. -/
theorem fptosi_ri (n : ℤ) (h1 : -2147483648 ≤ n) (h2 : n ≤ 2147483647) : Ideal.fptosi 32 (ri n) = BitVec.ofInt 32 n := by
  unfold Ideal.fptosi
  rw [Ideal.toIntClamped_coe]
  congr 1
  simp only [Int.floor_intCast, Int.ceil_intCast, ite_self]
  norm_num
  omega

/-- The word of an integer in the int32 range holds that integer. -/
theorem toInt_ofInt (n : ℤ) (h1 : -2147483648 ≤ n) (h2 : n ≤ 2147483647) : (BitVec.ofInt 32 n).toInt = n := by
  rw [BitVec.toInt_ofInt, Int.bmod_eq_of_le] <;> omega
/-- The least int32. -/
theorem toInt_lo (x : BitVec 32) : -2147483648 ≤ x.toInt := by have := BitVec.le_toInt x; norm_num at this; exact this
/-- The greatest int32. -/
theorem toInt_hi (x : BitVec 32) : x.toInt ≤ 2147483647 := by have := BitVec.toInt_lt (x := x); norm_num at this; omega
/-- A word is determined by its integer modulo 2^32. -/
theorem eq_of_mod (x : BitVec 32) (n : ℤ) (h : ∃ k : ℤ, x.toInt = n + k * 4294967296) : x = BitVec.ofInt 32 n := by
  obtain ⟨k, hk⟩ := h
  rw [← BitVec.ofInt_toInt (x := x)]
  apply BitVec.eq_of_toInt_eq
  rw [BitVec.toInt_ofInt, BitVec.toInt_ofInt, hk]
  exact Int.add_mul_bmod_self_right ..
/-- Words of integers add as the integers do. -/
theorem ofInt_add (a b : ℤ) : IntOp.addi (BitVec.ofInt 32 a) (BitVec.ofInt 32 b) = BitVec.ofInt 32 (a + b) := (BitVec.ofInt_add a b).symm
/-- Words of integers multiply as the integers do. -/
theorem ofInt_mul (a b : ℤ) : IntOp.muli (BitVec.ofInt 32 a) (BitVec.ofInt 32 b) = BitVec.ofInt 32 (a * b) := (BitVec.ofInt_mul a b).symm
/-- Words of integers subtract as the integers do. -/
theorem ofInt_sub (a b : ℤ) : IntOp.subi (BitVec.ofInt 32 a) (BitVec.ofInt 32 b) = BitVec.ofInt 32 (a - b) := by
  unfold IntOp.subi
  rw [sub_eq_add_neg, BitVec.ofInt_add, BitVec.ofInt_neg, BitVec.sub_eq_add_neg]
/-- A word is the word of its integer. -/
theorem as_ofInt (x : BitVec 32) : BitVec.ofInt 32 x.toInt = x := BitVec.ofInt_toInt

/-- The float32 constant one. -/
theorem ofBits_one : Ideal.ofBits .f32 0x3F800000#32 = ri 1 := by
  simp [Ideal.ofBits, Ideal.ieee, -EReal.coe_mul]; norm_num

/-- Selecting by a signed `≥`. -/
theorem select_sge {α : Type} (a b : BitVec 32) (x y : α) :
    Scalar.select (IntOp.cmpi .sge a b) x y = if b.toInt ≤ a.toInt then x else y := by
  unfold IntOp.cmpi; rw [select_ofBool]; simp [BitVec.sle]
/-- Selecting by a signed `<`. -/
theorem select_slt {α : Type} (a b : BitVec 32) (x y : α) :
    Scalar.select (IntOp.cmpi .slt a b) x y = if a.toInt < b.toInt then x else y := by
  unfold IntOp.cmpi; rw [select_ofBool]; simp [BitVec.slt]

/-- The kernel's quotient of two words with a positive divisor: two roundings to nearest and a correction. -/
def kfd (v s : BitVec 32) : BitVec 32 :=
  let d := Ideal.div (Ideal.ofBits .f32 0x3F800000#32) (ri s.toInt)
  let q1 := Ideal.fptosi 32 (Ideal.liftRound Ideal.roundHalfEven (ri v.toInt * d))
  let r1 := IntOp.subi v (IntOp.muli q1 s)
  let q2 := Ideal.fptosi 32 (Ideal.liftRound Ideal.roundHalfEven (ri r1.toInt * d))
  let r2 := IntOp.subi r1 (IntOp.muli q2 s)
  IntOp.subi (IntOp.addi (IntOp.addi q1 q2) (Scalar.select (IntOp.cmpi .sge r2 s) 1#32 0#32))
    (Scalar.select (IntOp.cmpi .slt r2 0#32) 1#32 0#32)

/-- An integer times the reciprocal of a positive one is the real quotient. -/
theorem mul_div (v s : ℤ) (hs : 0 < s) : ri v * Ideal.div (ri 1) (ri s) = (((v : ℝ) / s : ℝ) : EReal) := by
  rw [Ideal.div_coe (by exact_mod_cast hs.ne')]
  simp only [ri]
  rw [← EReal.coe_mul, ← EReal.coe_mul]
  congr 1
  push_cast
  field_simp

/-- The kernel's division, a float quotient with its corrections, is the integer quotient rounded down. -/
theorem kfd_eq (v s : BitVec 32) (hv : 0 ≤ v.toInt) (hs : 0 < s.toInt) : kfd v s = BitVec.ofInt 32 (v.toInt / s.toInt) := by
  have hsr : (0 : ℝ) < (s.toInt : ℝ) := by exact_mod_cast hs
  have hvr : (0 : ℝ) ≤ (v.toInt : ℝ) := by exact_mod_cast hv
  have hvh := toInt_hi v
  have hsh := toInt_hi s
  unfold kfd
  simp only [ofBits_one]
  rw [mul_div _ _ hs, Ideal.liftRound_coe]
  set q := Ideal.roundHalfEven ((v.toInt : ℝ) / s.toInt) with hq
  obtain ⟨h1, h2⟩ := round_abs_le ((v.toInt : ℝ) / s.toInt)
  rw [← hq] at h1 h2
  have hd : (v.toInt : ℝ) / s.toInt * s.toInt = v.toInt := by field_simp
  have hA : (2 * (v.toInt - q * s.toInt) : ℝ) ≤ s.toInt := by nlinarith
  have hB : -(s.toInt : ℝ) ≤ (2 * (v.toInt - q * s.toInt) : ℝ) := by nlinarith
  have hA' : 2 * (v.toInt - q * s.toInt) ≤ s.toInt := by exact_mod_cast hA
  have hB' : -s.toInt ≤ 2 * (v.toInt - q * s.toInt) := by exact_mod_cast hB
  have hq0 : 0 ≤ q := by
    by_contra hc
    have : q ≤ -1 := by omega
    nlinarith
  have hq1 : q ≤ 2147483647 := by
    by_contra hc
    have : (2147483648 : ℤ) ≤ q := by omega
    nlinarith
  rw [fptosi_ri q (by omega) hq1]
  have hr1 : IntOp.subi v (IntOp.muli (BitVec.ofInt 32 q) s) = BitVec.ofInt 32 (v.toInt - q * s.toInt) := by
    rw [← ofInt_sub, ← ofInt_mul, as_ofInt, as_ofInt]
  rw [hr1, toInt_ofInt _ (by omega) (by omega)]
  rw [mul_div _ _ hs, Ideal.liftRound_coe]
  have hz : Ideal.roundHalfEven (((v.toInt - q * s.toInt : ℤ) : ℝ) / s.toInt) = 0 := by
    set r : ℝ := ((v.toInt - q * s.toInt : ℤ) : ℝ) / s.toInt with hr
    have hrm : r * s.toInt = v.toInt - q * s.toInt := by rw [hr]; push_cast; field_simp
    have hr1 : r ≤ 1 / 2 := by rw [hr, div_le_iff₀ hsr]; push_cast; linarith
    have hr2 : -(1 / 2) ≤ r := by rw [hr, le_div_iff₀ hsr]; push_cast; linarith
    unfold Ideal.roundHalfEven
    rcases le_or_gt 0 r with h | h
    · have hf : ⌊r⌋ = 0 := Int.floor_eq_iff.2 ⟨by simpa using h, by norm_num; linarith⟩
      simp only [hf]
      split_ifs with a b c
      · rfl
      · exfalso; push_cast at b; linarith
      · rfl
      · exact absurd (by decide) c
    · have hf : ⌊r⌋ = -1 := Int.floor_eq_iff.2 ⟨by push_cast; linarith, by push_cast; linarith⟩
      simp only [hf]
      split_ifs with a b c
      · exfalso; push_cast at a; linarith
      · rfl
      · exact absurd c (by decide)
      · rfl
  rw [hz, show ((((0 : ℤ) : ℝ)) : EReal) = ri 0 from rfl, fptosi_ri 0 (by omega) (by omega)]
  have e0 : BitVec.ofInt 32 0 = 0#32 := rfl
  rw [e0]
  have e1 : ∀ x, IntOp.muli (0#32) x = 0#32 := fun x => by simp [IntOp.muli]
  have e2 : ∀ x : BitVec 32, IntOp.subi x 0#32 = x := fun x => by simp [IntOp.subi]
  have e3 : ∀ x : BitVec 32, IntOp.addi x 0#32 = x := fun x => by simp [IntOp.addi]
  rw [e1, e2, e3]
  rw [select_sge, select_slt, toInt_ofInt _ (by omega) (by omega), show (0#32).toInt = 0 from rfl]
  by_cases hneg : v.toInt - q * s.toInt < 0
  · rw [if_neg (by omega), if_pos hneg, e3]
    have : v.toInt / s.toInt = q - 1 := by
      rw [Int.ediv_eq_iff_of_pos hs]
      constructor <;> nlinarith
    rw [this, ← ofInt_sub]; rfl
  · rw [if_neg (by omega), if_neg hneg, e3, e2]
    have : v.toInt / s.toInt = q := by
      rw [Int.ediv_eq_iff_of_pos hs]
      constructor <;> nlinarith
    rw [this]
end Cert.Proof
-- ==== Proof.Division.lean ====
module
public import Idealize.ShloMosaic.Lib.Pointwise
public import proofs.«01_k».proof.Proof.Reals
@[expose] public section
noncomputable section
namespace Cert.Proof
open Idealize.ShloMosaic

/-- The sign of a word: -1, 0 or 1. -/
def sgn (x : BitVec 32) : BitVec 32 := if x = 0 then 0 else if x.msb then -1 else 1

/-- The host's quotient rounded down: the truncated one, corrected where the signs differ and there is a remainder. -/
def hfd (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)

/-- The host's floor division by a positive divisor is the integer quotient rounded down. -/
theorem hfd_eq (x y : BitVec 32) (hy : 0 < y.toInt) : hfd x y = BitVec.ofInt 32 (x.toInt / y.toInt) := by
  have hxl := toInt_lo x
  have hxh := toInt_hi x
  have hc : ¬ IntOp.SDivCorner x y := by
    rintro (h | ⟨_, h⟩) <;> rw [h] at hy <;> exact absurd hy (by decide)
  have hsy : sgn y = 1#32 := by
    unfold sgn
    rw [if_neg (fun h => by rw [h] at hy; exact absurd hy (by decide)), if_neg]
    · rfl
    · rw [BitVec.msb_eq_toInt]; simp; omega
  have hq : IntOp.divsi .host x y = BitVec.ofInt 32 (x.toInt.tdiv y.toInt) := by
    unfold IntOp.divsi
    rw [if_neg hc]
    apply BitVec.eq_of_toInt_eq
    rw [BitVec.toInt_sdiv, BitVec.toInt_ofInt]
  have hr : (IntOp.remsi .host x y).toInt = x.toInt.tmod y.toInt := by
    unfold IntOp.remsi
    rw [if_neg hc, BitVec.toInt_srem]
  have hr0 : (IntOp.remsi .host x y = 0#32) ↔ y.toInt ∣ x.toInt := by
    rw [Int.dvd_iff_tmod_eq_zero, ← hr]
    exact ⟨fun h => by rw [h]; rfl, fun h => BitVec.eq_of_toInt_eq (by rw [h]; rfl)⟩
  unfold hfd
  have hne : ∀ a b : BitVec 32, IntOp.cmpi .ne a b = BitVec.ofBool (a != b) := fun _ _ => rfl
  rw [hne, hne, show ∀ a b : Bool, IntOp.andi (BitVec.ofBool a) (BitVec.ofBool b) = BitVec.ofBool (a && b) by decide,
    select_ofBool, hsy, hq]
  rcases lt_trichotomy x.toInt 0 with h | h | h
  · have hsx : sgn x = -1 := by
      unfold sgn
      rw [if_neg (fun h' => by rw [h'] at h; exact absurd h (by decide)), if_pos]
      rw [BitVec.msb_eq_toInt]; simpa using h
    rw [hsx]
    by_cases hd : y.toInt ∣ x.toInt
    · rw [if_neg (by simp [hr0.2 hd]), Int.tdiv_eq_ediv, if_pos (Or.inr hd), add_zero]
    · have hm : ¬ IntOp.remsi .host x y = 0#32 := fun h' => hd (hr0.1 h')
      rw [if_pos (by simp [hm]), Int.tdiv_eq_ediv, if_neg (by rintro (h' | h') <;> [omega; exact hd h']), Int.sign_eq_one_of_pos hy,
        show (1#32 : BitVec 32) = BitVec.ofInt 32 1 from rfl, ofInt_sub]
      congr 1; ring
  · have hx : x = 0#32 := BitVec.eq_of_toInt_eq (by rw [h]; rfl)
    rw [if_neg (by simp [hr0.2 (by rw [h]; exact dvd_zero _)]), h]; simp
  · have hsx : sgn x = 1#32 := by
      unfold sgn
      rw [if_neg (fun h' => by rw [h'] at h; exact absurd h (by decide)), if_neg]
      · rfl
      · rw [BitVec.msb_eq_toInt]; simp; omega
    rw [hsx, if_neg (by simp), Int.tdiv_eq_ediv, if_pos (Or.inl (by omega)), add_zero]

/-- A right shift read signed is a division rounded down. -/
theorem toInt_shrsi (u : ArithUnit) (x y : BitVec 32) (n : Nat) (hn : n < 32) (hy : y.toNat = n) :
    (IntOp.shrsi u x y).toInt = x.toInt / 2 ^ n := by
  rw [shrsi_eq, BitVec.toInt_sshiftRight, Int.shiftRight_eq_div_pow, hy, Nat.min_eq_left (by omega)]; norm_cast

/-- One step of the square root by Newton's rule, as the host computes it. -/
def nstep (v s : BitVec 32) : BitVec 32 := IntOp.shrsi .host (IntOp.addi s (hfd v s)) 1#32
/-- One step of the square root, as the kernel computes it. -/
def kstep (v s : BitVec 32) : BitVec 32 := IntOp.shrsi .vector (IntOp.addi s (kfd v s)) 1#32

/-- What holds of every iterate: positive, at most 65536, and not below the root. -/
def RootInv (v s : BitVec 32) : Prop := 1 ≤ s.toInt ∧ s.toInt ≤ 65536 ∧ v.toInt < (s.toInt + 1) * (s.toInt + 1)

/-- One step of the square root is the same on both sides, and keeps the invariant. -/
theorem step_eq (v s : BitVec 32) (hv : 1 ≤ v.toInt) (h : RootInv v s) : kstep v s = nstep v s ∧ RootInv v (nstep v s) := by
  obtain ⟨h1, h2, h3⟩ := h
  have hvh := toInt_hi v
  refine ⟨?_, ?_⟩
  · unfold kstep nstep
    rw [kfd_eq v s (by omega) (by omega), hfd_eq v s (by omega), shrsi_eq, shrsi_eq]
  · have hq0 : 0 ≤ v.toInt / s.toInt := Int.ediv_nonneg (by omega) (by omega)
    have hqm : v.toInt / s.toInt * s.toInt ≤ v.toInt := Int.ediv_mul_le _ (by omega)
    have hql : v.toInt < (v.toInt / s.toInt + 1) * s.toInt := Int.lt_ediv_add_one_mul_self _ (by omega)
    have hstep : (nstep v s).toInt = (s.toInt + v.toInt / s.toInt) / 2 := by
      unfold nstep
      rw [toInt_shrsi _ _ _ 1 (by omega) rfl, hfd_eq v s (by omega)]
      have hb : v.toInt / s.toInt ≤ s.toInt + 2 := by
        by_contra hc
        nlinarith
      rw [← as_ofInt s, ofInt_add, as_ofInt s, toInt_ofInt _ (by omega) (by omega)]; norm_num
    generalize hq : v.toInt / s.toInt = q at *
    have hp : 2 * ((s.toInt + q) / 2) ≤ s.toInt + q ∧ s.toInt + q ≤ 2 * ((s.toInt + q) / 2) + 1 := by omega
    unfold RootInv
    rw [hstep]
    generalize (s.toInt + q) / 2 = t at *
    refine ⟨?_, ?_, ?_⟩
    · rcases Nat.lt_or_ge 1 s.toInt.toNat with hs | hs
      · omega
      · have : s.toInt = 1 := by omega
        rw [this] at hql hqm; omega
    · rcases lt_or_ge s.toInt 65536 with hs | hs
      · have hb : q ≤ s.toInt + 2 := by
          by_contra hc
          nlinarith
        omega
      · have : s.toInt = 65536 := by omega
        rw [this] at hql hqm hp; omega
    · nlinarith [sq_nonneg (s.toInt - q - 1), hp.1, hp.2]

/-- The start of the square root. -/
theorem inv_start (v : BitVec 32) : RootInv v 65536#32 := by
  have := toInt_hi v
  refine ⟨by decide, by decide, ?_⟩
  rw [show (65536#32).toInt = 65536 from rfl]; omega

/-- After any number of steps the kernel's iterate is the host's. -/
theorem iter_eq (v s : BitVec 32) (hv : 1 ≤ v.toInt) (hs : RootInv v s) (n : Nat) :
    (kstep v)^[n] s = (nstep v)^[n] s ∧ RootInv v ((nstep v)^[n] s) := by
  induction n with
  | zero => rw [Function.iterate_zero, Function.iterate_zero]; exact ⟨Eq.refl s, hs⟩
  | succ n ih =>
    rw [Function.iterate_succ_apply', Function.iterate_succ_apply', ih.1]
    exact step_eq v _ hv ih.2

/-- The normalizing factor from the root, on the host. -/
def hFac (s : BitVec 32) : BitVec 32 := hfd 2147483647#32 (IntOp.shli .host (IntOp.addi s 1#32) 4#32)
/-- The normalizing factor from the root, in the kernel. -/
def kFac (s : BitVec 32) : BitVec 32 := kfd 2147483647#32 (IntOp.shli .vector (IntOp.addi s 1#32) 4#32)

/-- The kernel's normalization factor is the host's. -/
theorem fac_eq (v s : BitVec 32) (h : RootInv v s) : kFac s = hFac s := by
  obtain ⟨h1, h2, _⟩ := h
  have hs : (IntOp.shli .host (IntOp.addi s 1#32) 4#32).toInt = (s.toInt + 1) * 16 := by
    have ha := toNat_of_nonneg s (by omega)
    rw [shli_eq, if_pos (by decide), show (4#32).toNat = 4 from rfl, BitVec.toInt_eq_toNat_cond, BitVec.toNat_shiftLeft]
    unfold IntOp.addi
    rw [BitVec.toNat_add, show (1#32).toNat = 1 from rfl, Nat.shiftLeft_eq]
    rw [if_pos (by omega)]; push_cast; omega
  unfold kFac hFac
  rw [show IntOp.shli .vector (IntOp.addi s 1#32) 4#32 = IntOp.shli .host (IntOp.addi s 1#32) 4#32 by rw [shli_eq, shli_eq],
    kfd_eq _ _ (by decide) (by omega), hfd_eq _ _ (by omega)]

/-- The mean of a row from its sum, on the host. -/
def hMean (S : BitVec 32) : BitVec 32 := hfd (IntOp.addi S 1792#32) 3584#32
/-- The kernel's shifted sum. -/
def kMeanU (S : BitVec 32) : BitVec 32 := IntOp.shrsi .vector (IntOp.addi S 1792#32) 9#32
/-- The kernel's division by seven: a product with the rounded reciprocal and a correction. -/
def kDiv7 (u : BitVec 32) : BitVec 32 :=
  let g := Ideal.fptosi 32 (Ideal.liftRound Int.floor (ri u.toInt * Ideal.ofBits .f32 0x3E124925#32))
  let r := IntOp.subi u (IntOp.muli g 7#32)
  IntOp.subi (IntOp.addi g (Scalar.select (IntOp.cmpi .sge r 7#32) 1#32 0#32)) (Scalar.select (IntOp.cmpi .slt r 0#32) 1#32 0#32)

/-- The exact value of the float32 constant next to one seventh. -/
theorem ofBits_seventh : Ideal.ofBits .f32 0x3E124925#32 = (((9586981 / 67108864 : ℝ)) : EReal) := by
  simp [Ideal.ofBits, Ideal.ieee, -EReal.coe_mul]; norm_num

/-- The kernel's mean of 3584 values is the host's, for every sum. -/
theorem mean_eq (S : BitVec 32) : kDiv7 (kMeanU S) = hMean S := by
  have hu : (kMeanU S).toInt = (IntOp.addi S 1792#32).toInt / 512 := by
    unfold kMeanU; rw [toInt_shrsi _ _ _ 9 (by omega) rfl]; norm_num
  have hl := toInt_lo (IntOp.addi S 1792#32)
  have hh := toInt_hi (IntOp.addi S 1792#32)
  unfold hMean
  rw [hfd_eq _ _ (by decide), show (3584#32).toInt = 512 * 7 from rfl, ← Int.ediv_ediv_of_nonneg (by omega), ← hu]
  have hul : -4194304 ≤ (kMeanU S).toInt := by omega
  have huh : (kMeanU S).toInt ≤ 4194303 := by omega
  generalize kMeanU S = u at *
  unfold kDiv7
  simp only [ofBits_seventh]
  rw [show ri u.toInt * (((9586981 / 67108864 : ℝ)) : EReal) = ((((u.toInt : ℝ) * (9586981 / 67108864) : ℝ)) : EReal) by rw [EReal.coe_mul],
    Ideal.liftRound_coe]
  have f1 := Int.floor_le ((u.toInt : ℝ) * (9586981 / 67108864))
  have f2 := Int.lt_floor_add_one ((u.toInt : ℝ) * (9586981 / 67108864))
  generalize ⌊(u.toInt : ℝ) * (9586981 / 67108864)⌋ = g at *
  have g1 : g * 67108864 ≤ u.toInt * 9586981 := by
    have : (g : ℝ) * 67108864 ≤ u.toInt * 9586981 := by linarith
    exact_mod_cast this
  have g2 : u.toInt * 9586981 < (g + 1) * 67108864 := by
    have : (u.toInt : ℝ) * 9586981 < (g + 1) * 67108864 := by linarith
    exact_mod_cast this
  rw [fptosi_ri g (by omega) (by omega)]
  have hr : IntOp.subi u (IntOp.muli (BitVec.ofInt 32 g) 7#32) = BitVec.ofInt 32 (u.toInt - g * 7) := by
    rw [← ofInt_sub, ← ofInt_mul, as_ofInt]; rfl
  rw [hr, select_sge, select_slt, toInt_ofInt _ (by omega) (by omega), show (0#32).toInt = 0 from rfl, show (7#32).toInt = 7 from rfl]
  have e1 : (1#32) = BitVec.ofInt 32 1 := rfl
  have e0 : (0#32) = BitVec.ofInt 32 0 := rfl
  rw [e1, e0]
  split_ifs <;> rw [ofInt_add, ofInt_sub] <;> congr 1 <;> omega
end Cert.Proof
-- ==== Proof.Gelu.lean ====
module
public import Idealize.ShloMosaic.Lib.Pointwise
public import proofs.«01_k».proof.Proof.Division
@[expose] public section
noncomputable section
namespace Cert.Proof
open Idealize.ShloMosaic

/-- An integer a 32-bit word can hold. -/
abbrev InR (a : ℤ) : Prop := -2147483648 ≤ a ∧ a ≤ 2147483647

/-- The smaller of two words of integers. -/
theorem min_ofInt (a b : ℤ) (ha : InR a) (hb : InR b) : IntOp.minsi (BitVec.ofInt 32 a) (BitVec.ofInt 32 b) = BitVec.ofInt 32 (min a b) := by
  unfold IntOp.minsi
  simp only [BitVec.slt, decide_eq_true_eq]
  rw [toInt_ofInt a ha.1 ha.2, toInt_ofInt b hb.1 hb.2]
  split
  · rw [min_eq_left (by omega)]
  · rw [min_eq_right (by omega)]
/-- The larger of two words of integers. -/
theorem max_ofInt (a b : ℤ) (ha : InR a) (hb : InR b) : IntOp.maxsi (BitVec.ofInt 32 a) (BitVec.ofInt 32 b) = BitVec.ofInt 32 (max a b) := by
  unfold IntOp.maxsi
  simp only [BitVec.slt, decide_eq_true_eq]
  rw [toInt_ofInt a ha.1 ha.2, toInt_ofInt b hb.1 hb.2]
  split
  · rw [max_eq_left (by omega)]
  · rw [max_eq_right (by omega)]
/-- The integer of the smaller word. -/
theorem toInt_min (x y : BitVec 32) : (IntOp.minsi x y).toInt = min x.toInt y.toInt := by
  unfold IntOp.minsi; simp only [BitVec.slt, decide_eq_true_eq]; split
  · rw [min_eq_left (by omega)]
  · rw [min_eq_right (by omega)]
/-- The integer of the larger word. -/
theorem toInt_max (x y : BitVec 32) : (IntOp.maxsi x y).toInt = max x.toInt y.toInt := by
  unfold IntOp.maxsi; simp only [BitVec.slt, decide_eq_true_eq]; split
  · rw [max_eq_left (by omega)]
  · rw [max_eq_right (by omega)]
/-- The sign bit of the word of an integer. -/
theorem msb_ofInt (a : ℤ) (ha : InR a) : (BitVec.ofInt 32 a).msb = decide (a < 0) := by
  rw [BitVec.msb_eq_toInt, toInt_ofInt a ha.1 ha.2]
/-- The absolute value of the word of an integer. -/
theorem abs_ofInt (a : ℤ) (h : -2147483647 ≤ a) (h' : a ≤ 2147483647) : IntOp.absi (BitVec.ofInt 32 a) = BitVec.ofInt 32 |a| := by
  unfold IntOp.absi
  rw [msb_ofInt a ⟨by omega, h'⟩]
  rcases lt_or_ge a 0 with hn | hn
  · rw [if_pos (by simpa using hn), abs_of_neg hn, BitVec.ofInt_neg]
  · rw [if_neg (by simpa using hn), abs_of_nonneg hn]
/-- The sign of the word of an integer. -/
theorem sgn_ofInt (a : ℤ) (ha : InR a) : sgn (BitVec.ofInt 32 a) = BitVec.ofInt 32 (Int.sign a) := by
  unfold sgn
  rw [msb_ofInt a ha]
  rcases lt_trichotomy a 0 with h | h | h
  · rw [if_neg (fun h' => by have := toInt_ofInt a ha.1 ha.2; rw [h'] at this; simp at this; omega), if_pos (by simpa using h), Int.sign_eq_neg_one_of_neg h]; rfl
  · subst h; rfl
  · rw [if_neg (fun h' => by have := toInt_ofInt a ha.1 ha.2; rw [h'] at this; simp at this; omega), if_neg (by simp; omega), Int.sign_eq_one_of_pos h]; rfl
/-- An arithmetic right shift divides by the power of two, rounding down. -/
theorem shr_ofInt (u : ArithUnit) (a : ℤ) (ha : InR a) (y : BitVec 32) (n : Nat) (hn : n < 32) (hy : y.toNat = n) :
    IntOp.shrsi u (BitVec.ofInt 32 a) y = BitVec.ofInt 32 (a / 2 ^ n) := by
  rw [← as_ofInt (IntOp.shrsi u _ y), toInt_shrsi u _ y n hn hy, toInt_ofInt a ha.1 ha.2]
/-- Masking the low fifteen bits is the remainder by 32768. -/
theorem and_ofInt (a : ℤ) (ha : InR a) : IntOp.andi (BitVec.ofInt 32 a) 32767#32 = BitVec.ofInt 32 (a % 32768) := by
  apply BitVec.eq_of_toInt_eq
  rw [toInt_ofInt _ (by omega) (by omega)]
  unfold IntOp.andi
  have h1 : ((BitVec.ofInt 32 a) &&& 32767#32).toNat = (BitVec.ofInt 32 a).toNat % 32768 := by
    rw [BitVec.toNat_and]; exact Nat.and_two_pow_sub_one_eq_mod _ 15
  have h2 := toInt_ofInt a ha.1 ha.2
  rw [BitVec.toInt_eq_toNat_cond] at h2 ⊢
  rw [h1]
  rw [if_pos (by omega)]
  split at h2 <;> omega

/-- The quantised pre-activation from its unclipped value. -/
def qWord (r : BitVec 32) : BitVec 32 := IntOp.minsi 4095#32 (IntOp.maxsi 4294963201#32 (IntOp.addi r 0#32))
/-- The numerator of the gate, times 256. -/
def gE (q : BitVec 32) : BitVec 32 :=
  IntOp.muli (sgn q) (IntOp.subi 453850#32 (IntOp.muli (IntOp.addi (IntOp.minsi (IntOp.absi q) 640#32) 4294966655#32)
    (IntOp.addi (IntOp.minsi (IntOp.absi q) 640#32) 4294966655#32)))
/-- The activation's product of `q` and its gate. -/
def gP (q : BitVec 32) : BitVec 32 := IntOp.muli q (IntOp.addi (IntOp.shrsi .host (gE q) 8#32) 1772#32)
/-- The quantised activation, as a 32-bit word between 0 and 255. -/
def hWide (q : BitVec 32) : BitVec 32 := IntOp.minsi 255#32 (IntOp.maxsi 0#32 (IntOp.addi (rq (gP q) 18927#32 29#32) 6#32))

/-- `hWide` in the integers. -/
def gEi (n : ℤ) : ℤ := n.sign * (453850 - (min |n| 640 - 641) * (min |n| 640 - 641))
/-- The product of the pre-activation and its gate, in the integers. -/
def gPi (n : ℤ) : ℤ := n * (gEi n / 256 + 1772)
/-- The activation, in the integers: scaled, rounded, offset by six and clipped to a byte. -/
def hInt (n : ℤ) : ℤ := min 255 (max 0 ((gPi n * 18927 + 268435456) / 536870912 + 6))

/-- The kernel's form of the error function polynomial equals the reference's, at every integer. -/
theorem gEi_form (n : ℤ) : gEi n = max (-640) (min 640 n) * (1282 - |max (-640) (min 640 n)|) + max (-42969) (min 42969 (n * 42969)) := by
  unfold gEi
  rcases lt_trichotomy n 0 with h | h | h
  · rw [Int.sign_eq_neg_one_of_neg h, abs_of_neg h, min_eq_right (by omega : n ≤ 640), abs_of_neg (by omega), min_eq_right (by omega : n * 42969 ≤ 42969),
      max_eq_left (by omega : n * 42969 ≤ -42969)]
    rcases le_total n (-640) with h' | h'
    · rw [max_eq_left h', min_eq_right (by omega)]; norm_num
    · rw [max_eq_right h', min_eq_left (by omega)]; ring
  · subst h; simp
  · rw [Int.sign_eq_one_of_pos h, abs_of_pos h, max_eq_right (by omega : -640 ≤ min 640 n), abs_of_pos (by omega), min_eq_left (by omega : 42969 ≤ n * 42969),
      max_eq_right (by omega : (-42969 : ℤ) ≤ 42969)]
    rcases le_total n 640 with h' | h'
    · rw [min_eq_right h', min_eq_left (by omega)]; ring
    · rw [min_eq_left h', min_eq_right (by omega)]; norm_num

/-- The polynomial is small. -/
theorem gEi_bounds (n : ℤ) : -453849 ≤ gEi n ∧ gEi n ≤ 453849 := by
  have key : ∀ a : ℤ, 0 ≤ a → a ≤ 640 → 0 ≤ 453850 - (a - 641) * (a - 641) ∧ 453850 - (a - 641) * (a - 641) ≤ 453849 := by
    intro a h1 h2; constructor <;> nlinarith
  have ha : 0 ≤ min |n| 640 := by have := abs_nonneg n; omega
  obtain ⟨k1, k2⟩ := key _ ha (min_le_right _ _)
  unfold gEi
  rcases lt_trichotomy n 0 with h | h | h
  · rw [Int.sign_eq_neg_one_of_neg h]; omega
  · subst h; simp
  · rw [Int.sign_eq_one_of_pos h]; omega

/-- The product fits below 2^24, so a float32 would hold it too. -/
theorem gPi_bounds (n : ℤ) (h1 : -4095 ≤ n) (h2 : n ≤ 4095) : -16777216 < gPi n ∧ gPi n < 16777216 := by
  obtain ⟨e1, e2⟩ := gEi_bounds n
  have g1 : -1 ≤ gEi n / 256 + 1772 := by omega
  have g2 : gEi n / 256 + 1772 ≤ 3544 := by omega
  unfold gPi
  generalize gEi n / 256 + 1772 = g at *
  constructor <;> nlinarith

/-- The rescaling by the fixed scale, in the integers. -/
theorem rq_lit (P : ℤ) (h1 : -16777216 < P) (h2 : P < 16777216) :
    rq (BitVec.ofInt 32 P) 18927#32 29#32 = BitVec.ofInt 32 ((P * 18927 + 268435456) / 536870912) := by
  unfold rq
  rw [show IntOp.minsi 29#32 15#32 = 15#32 from rfl, show IntOp.subi (IntOp.shli .host 1#32 15#32) 1#32 = 32767#32 by decide,
    show IntOp.shli .host 1#32 (IntOp.subi 29#32 1#32) = BitVec.ofInt 32 268435456 by decide, show IntOp.subi 29#32 15#32 = 14#32 from rfl,
    and_ofInt P ⟨by omega, by omega⟩, shr_ofInt _ P ⟨by omega, by omega⟩ 15#32 15 (by omega) rfl,
    show (18927#32) = BitVec.ofInt 32 18927 from rfl, ofInt_mul, ofInt_mul, ofInt_add, shr_ofInt _ _ ⟨by omega, by omega⟩ 15#32 15 (by omega) rfl,
    ofInt_add, shr_ofInt _ _ ⟨by omega, by omega⟩ 14#32 14 (by omega) rfl]
  congr 1
  omega

/-- The host's activation is the integer one. -/
theorem hWide_eq (n : ℤ) (h1 : -4095 ≤ n) (h2 : n ≤ 4095) : hWide (BitVec.ofInt 32 n) = BitVec.ofInt 32 (hInt n) := by
  have hE : gE (BitVec.ofInt 32 n) = BitVec.ofInt 32 (gEi n) := by
    unfold gE gEi
    have := abs_nonneg n
    have : |n| ≤ 4095 := abs_le.2 ⟨h1, h2⟩
    rw [abs_ofInt n (by omega) (by omega), sgn_ofInt n ⟨by omega, by omega⟩, show (640#32) = BitVec.ofInt 32 640 from rfl,
      min_ofInt _ _ ⟨by omega, by omega⟩ ⟨by omega, by omega⟩, show (4294966655#32) = BitVec.ofInt 32 (-641) from rfl, ofInt_add, ofInt_mul,
      show (453850#32) = BitVec.ofInt 32 453850 from rfl, ofInt_sub, ofInt_mul]; rfl
  obtain ⟨e1, e2⟩ := gEi_bounds n
  obtain ⟨p1, p2⟩ := gPi_bounds n h1 h2
  have hP : gP (BitVec.ofInt 32 n) = BitVec.ofInt 32 (gPi n) := by
    unfold gP gPi
    rw [hE, shr_ofInt _ _ ⟨by omega, by omega⟩ 8#32 8 (by omega) rfl, show (1772#32) = BitVec.ofInt 32 1772 from rfl, ofInt_add, ofInt_mul]; norm_num
  unfold hWide hInt
  rw [hP, rq_lit _ p1 p2, show (6#32) = BitVec.ofInt 32 6 from rfl, ofInt_add, show (0#32) = BitVec.ofInt 32 0 from rfl,
    max_ofInt _ _ ⟨by omega, by omega⟩ ⟨by omega, by omega⟩, show (255#32) = BitVec.ofInt 32 255 from rfl,
    min_ofInt _ _ ⟨by omega, by omega⟩ ⟨by omega, by omega⟩]

/-- The float32 constant -640. -/
theorem ob_n640 : Ideal.ofBits .f32 0xC4200000#32 = ri (-640) := by simp [Ideal.ofBits, Ideal.ieee, -EReal.coe_mul]; norm_num; rw [← EReal.coe_neg, ri]; congr 1; norm_num
/-- The float32 constant 640. -/
theorem ob_640 : Ideal.ofBits .f32 0x44200000#32 = ri 640 := by simp [Ideal.ofBits, Ideal.ieee, -EReal.coe_mul]; norm_num
/-- The float32 constant 1282. -/
theorem ob_1282 : Ideal.ofBits .f32 0x44A04000#32 = ri 1282 := by simp [Ideal.ofBits, Ideal.ieee, -EReal.coe_mul]; norm_num
/-- The float32 constant 42969. -/
theorem ob_42969 : Ideal.ofBits .f32 0x4727D900#32 = ri 42969 := by simp [Ideal.ofBits, Ideal.ieee, -EReal.coe_mul]; norm_num
/-- The float32 constant -42969. -/
theorem ob_n42969 : Ideal.ofBits .f32 0xC727D900#32 = ri (-42969) := by simp [Ideal.ofBits, Ideal.ieee, -EReal.coe_mul]; norm_num; rw [← EReal.coe_neg, ri]; congr 1; norm_num
/-- The float32 constant 1772. -/
theorem ob_1772 : Ideal.ofBits .f32 0x44DD8000#32 = ri 1772 := by simp [Ideal.ofBits, Ideal.ieee, -EReal.coe_mul]; norm_num
/-- The float32 constant -6. -/
theorem ob_n6 : Ideal.ofBits .f32 0xC0C00000#32 = ri (-6) := by simp [Ideal.ofBits, Ideal.ieee, -EReal.coe_mul]; norm_num; rw [← EReal.coe_neg, ri]; congr 1; norm_num
/-- The float32 constant 6. -/
theorem ob_6 : Ideal.ofBits .f32 0x40C00000#32 = ri 6 := by simp [Ideal.ofBits, Ideal.ieee, -EReal.coe_mul]; norm_num
/-- The float32 constant 249. -/
theorem ob_249 : Ideal.ofBits .f32 0x43790000#32 = ri 249 := by simp [Ideal.ofBits, Ideal.ieee, -EReal.coe_mul]; norm_num
/-- The float32 constant 4095. -/
theorem ob_4095 : Ideal.ofBits .f32 0x457FF000#32 = ri 4095 := by simp [Ideal.ofBits, Ideal.ieee, -EReal.coe_mul]; norm_num
/-- The float32 constant -4095. -/
theorem ob_n4095 : Ideal.ofBits .f32 0xC57FF000#32 = ri (-4095) := by simp [Ideal.ofBits, Ideal.ieee, -EReal.coe_mul]; norm_num; rw [← EReal.coe_neg, ri]; congr 1; norm_num
/-- The float32 constant 1/256. -/
theorem ob_256th : Ideal.ofBits .f32 0x3B800000#32 = ((1 / 256 : ℝ) : EReal) := by simp [Ideal.ofBits, Ideal.ieee, -EReal.coe_mul]; norm_num
/-- The float32 constant 18927/2^29. -/
theorem ob_m : Ideal.ofBits .f32 0x3813DE00#32 = ((18927 / 536870912 : ℝ) : EReal) := by simp [Ideal.ofBits, Ideal.ieee, -EReal.coe_mul]; norm_num

/-- The kernel's clipped pre-activation, a real. -/
def kClamp (r : BitVec 32) : EReal :=
  min (Ideal.ofBits .f32 0x457FF000#32) (max (Ideal.ofBits .f32 0xC57FF000#32) (ri r.toInt))
/-- The kernel's activation before its rounding, a real. -/
def kPre (x : EReal) : EReal :=
  x * (Ideal.liftRound Int.floor ((min (Ideal.ofBits .f32 0x44200000#32) (max (Ideal.ofBits .f32 0xC4200000#32) x)
      * (Ideal.ofBits .f32 0x44A04000#32 - max (min (Ideal.ofBits .f32 0x44200000#32) (max (Ideal.ofBits .f32 0xC4200000#32) x))
          (-(min (Ideal.ofBits .f32 0x44200000#32) (max (Ideal.ofBits .f32 0xC4200000#32) x))))
      + min (Ideal.ofBits .f32 0x4727D900#32) (max (Ideal.ofBits .f32 0xC727D900#32) (x * Ideal.ofBits .f32 0x4727D900#32)))
      * Ideal.ofBits .f32 0x3B800000#32) + Ideal.ofBits .f32 0x44DD8000#32) * Ideal.ofBits .f32 0x3813DE00#32
/-- The kernel's activation without its zero point, a real between -6 and 249. -/
def kAct (x : EReal) : EReal :=
  min (Ideal.ofBits .f32 0x43790000#32) (max (Ideal.ofBits .f32 0xC0C00000#32) (Ideal.liftRound Ideal.roundHalfEven x))

/-- The clipped pre-activation, in the integers. -/
theorem qWord_toInt (r : BitVec 32) : (qWord r).toInt = min 4095 (max (-4095) r.toInt) := by
  unfold qWord
  rw [toInt_min, toInt_max, show IntOp.addi r 0#32 = r by simp [IntOp.addi]]; rfl
/-- The kernel's clipped float is the clipped word. -/
theorem kClamp_eq (r : BitVec 32) : kClamp r = ri (qWord r).toInt := by
  unfold kClamp
  rw [ob_4095, ob_n4095, ri_max, ri_min, qWord_toInt]
/-- The clipped pre-activation lies within the clip. -/
theorem qWord_bounds (r : BitVec 32) : -4095 ≤ (qWord r).toInt ∧ (qWord r).toInt ≤ 4095 := by
  rw [qWord_toInt]; omega
/-- The kernel's stored pre-activation is the host's. -/
theorem kq_eq (r : BitVec 32) : Ideal.fptosi 32 (Ideal.liftRound Ideal.roundHalfEven (kClamp r)) = qWord r := by
  obtain ⟨h1, h2⟩ := qWord_bounds r
  rw [kClamp_eq, roundeven_ri, fptosi_ri _ (by omega) (by omega), as_ofInt]

/-- Rounding down an integer times 1/256 is the integer quotient. -/
theorem floor_256 (e : ℤ) : Ideal.liftRound Int.floor (ri e * ((1 / 256 : ℝ) : EReal)) = ri (e / 256) := by
  rw [show ri e * ((1 / 256 : ℝ) : EReal) = (((e : ℝ) * (1 / 256) : ℝ) : EReal) by rw [EReal.coe_mul], Ideal.liftRound_coe]
  congr 2
  apply Int.floor_eq_iff.2
  have h1 : ((e / 256 : ℤ) : ℝ) * 256 ≤ e := by exact_mod_cast (by omega : e / 256 * 256 ≤ e)
  have h2 : (e : ℝ) < (((e / 256 : ℤ) : ℝ) + 1) * 256 := by exact_mod_cast (by omega : e < (e / 256 + 1) * 256)
  constructor <;> linarith

/-- The kernel's activation is the integer one, less the zero point. -/
theorem kAct_eq (n : ℤ) (h1 : -4095 ≤ n) (h2 : n ≤ 4095) : kAct (kPre (ri n)) = ri (hInt n - 6) := by
  obtain ⟨p1, p2⟩ := gPi_bounds n h1 h2
  have hpre : kPre (ri n) = (((gPi n * 18927 : ℤ) : ℝ) / 536870912 : ℝ) := by
    unfold kPre
    rw [ob_640, ob_n640, ob_1282, ob_42969, ob_n42969, ob_256th, ob_1772, ob_m, ri_mul n 42969]
    simp only [ri_max, ri_min, ri_neg, ri_sub, ri_mul, ri_add]
    have : (min 640 (max (-640) n) * (1282 - max (min 640 (max (-640) n)) (-min 640 (max (-640) n))) + min 42969 (max (-42969) (n * 42969))) = gEi n := by
      rw [gEi_form, show min 640 (max (-640) n) = max (-640) (min 640 n) by omega, show min 42969 (max (-42969) (n * 42969)) = max (-42969) (min 42969 (n * 42969)) by omega]
      rfl
    rw [this, floor_256, ri_add, ri_mul, show n * (gEi n / 256 + 1772) = gPi n from rfl, ← EReal.coe_mul]
    congr 1
    push_cast; ring
  unfold kAct
  rw [hpre, Ideal.liftRound_coe]
  have hr : Ideal.roundHalfEven (((gPi n * 18927 : ℤ) : ℝ) / 536870912) = (gPi n * 18927 + 268435456) / 536870912 := by
    generalize hP : gPi n = P at *
    have hk : ∃ k, k = (P * 18927 + 268435456) / 536870912 := ⟨_, rfl⟩
    obtain ⟨k, hk⟩ := hk
    rw [← hk]
    have b1 : P * 18927 - k * 536870912 < 268435456 := by omega
    have b2 : -268435456 < P * 18927 - k * 536870912 := by omega
    have c1 : (P : ℝ) * 18927 - k * 536870912 < 268435456 := by exact_mod_cast b1
    have c2 : (-268435456 : ℝ) < (P : ℝ) * 18927 - k * 536870912 := by exact_mod_cast b2
    apply round_of_near
    · push_cast; linarith
    · push_cast; linarith
  rw [hr, ob_249, ob_n6, ri_max, ri_min]
  congr 1
  unfold hInt
  norm_cast
  omega

/-- The activation is a byte. -/
theorem hInt_bounds (n : ℤ) : 0 ≤ hInt n ∧ hInt n ≤ 255 := by unfold hInt; omega
/-- The kernel's stored activation is the host's. -/
theorem kh_eq (n : ℤ) (h1 : -4095 ≤ n) (h2 : n ≤ 4095) :
    Ideal.fptosi 32 (Ideal.liftRound Ideal.roundHalfEven (kAct (kPre (ri n)) + Ideal.ofBits .f32 0x40C00000#32)) = hWide (BitVec.ofInt 32 n) := by
  obtain ⟨b1, b2⟩ := hInt_bounds n
  rw [kAct_eq n h1 h2, ob_6, ri_add, roundeven_ri, fptosi_ri _ (by omega) (by omega), hWide_eq n h1 h2]
  congr 1; ring
end Cert.Proof
-- ==== Proof.Sums.lean ====
module
public import Idealize.ShloMosaic.Lib.Pointwise
public import proofs.«01_k».proof.Proof.Division
public import Mathlib.Data.BitVec
@[expose] public section
noncomputable section
namespace Cert.Proof
open Idealize.ShloMosaic

/-- A fold by the word addition is the sum. -/
theorem fold_addi {ι : Type} [DecidableEq ι] (S : Finset ι) (b : BitVec 32) (f : ι → BitVec 32) :
    S.fold IntOp.addi b f = b + ∑ k ∈ S, f k := by
  induction S using Finset.cons_induction with
  | empty => simp
  | cons a S ha ih => rw [Finset.fold_cons, Finset.sum_cons, ih, add_left_comm]; rfl

/-- The word of a sum of integers is the sum of the words. -/
theorem ofInt_sum {ι : Type} (S : Finset ι) (f : ι → ℤ) : BitVec.ofInt 32 (∑ k ∈ S, f k) = ∑ k ∈ S, BitVec.ofInt 32 (f k) := by
  induction S using Finset.cons_induction with
  | empty => rfl
  | cons a S ha ih => rw [Finset.sum_cons, Finset.sum_cons, ← ih, BitVec.ofInt_add]

/-- A sum of bounded integers is bounded. -/
theorem abs_sum_le {n : ℕ} (f : Fin n → ℤ) (B : ℤ) (h : ∀ k, |f k| ≤ B) : |∑ k, f k| ≤ n * B := by
  refine (Finset.abs_sum_le_sum_abs _ _).trans ((Finset.sum_le_sum fun k _ => h k).trans ?_)
  simp

/-- A sum of bounded integers, taken in the reals, rounded and converted, is the sum of the words. -/
theorem exact_sum {n : ℕ} (f : Fin n → ℤ) (B : ℤ) (h : ∀ k, |f k| ≤ B) (hB : n * B ≤ 2147483647) :
    Ideal.fptosi 32 (Ideal.liftRound Ideal.roundHalfEven (∑ k, ri (f k))) = ∑ k, BitVec.ofInt 32 (f k) := by
  have := abs_le.1 ((abs_sum_le f B h).trans hB)
  rw [ri_sum, roundeven_ri, fptosi_ri _ (by omega) (by omega), ofInt_sum]

/-- The same without the rounding. -/
theorem exact_sum' {n : ℕ} (f : Fin n → ℤ) (B : ℤ) (h : ∀ k, |f k| ≤ B) (hB : n * B ≤ 2147483647) :
    Ideal.fptosi 32 (∑ k, ri (f k)) = ∑ k, BitVec.ofInt 32 (f k) := by
  have := abs_le.1 ((abs_sum_le f B h).trans hB)
  rw [ri_sum, fptosi_ri _ (by omega) (by omega), ofInt_sum]

/-- The range of an int8. -/
theorem toInt8 (a : BitVec 8) : -128 ≤ a.toInt ∧ a.toInt ≤ 127 := by
  have h1 := BitVec.le_toInt a
  have h2 := BitVec.toInt_lt (x := a)
  omega

/-- The size of a product of two int8 codes. -/
theorem abs_mul8 (a b : BitVec 8) : |a.toInt * b.toInt| ≤ 16384 := by
  obtain ⟨h1, h2⟩ := toInt8 a
  obtain ⟨h3, h4⟩ := toInt8 b
  rw [abs_le]; constructor <;> nlinarith

/-- The int32 product of two int8 codes. -/
theorem mul8 (a b : BitVec 8) : BitVec.ofInt 32 (a.toInt * b.toInt) = a.signExtend 32 * b.signExtend 32 := by
  rw [BitVec.ofInt_mul]; rfl

/-- A product of two rows of bytes, accumulated in the reals from zero and rounded, is the word sum of products. -/
theorem dot_word {n : ℕ} (hn : n ≤ 1024) (a b : Fin n → BitVec 8) :
    Ideal.fptosi 32 (Ideal.liftRound Ideal.roundHalfEven (∑ k, ri (a k).toInt * ri (b k).toInt))
      = ∑ k, (a k).signExtend 32 * (b k).signExtend 32 := by
  simp only [ri_mul, ← mul8]
  exact exact_sum _ 16384 (fun k => abs_mul8 _ _) (by omega)

/-- A sum over 3584 places, cut in 1024 + 1024 + 1024 + 512. -/
theorem sum_cut {M : Type} [AddCommMonoid M] (f : Fin 3584 → M) :
    ∑ k, f k = (∑ k : Fin 1024, f ⟨k, by omega⟩) + (∑ k : Fin 1024, f ⟨1024 + k, by omega⟩)
      + (∑ k : Fin 1024, f ⟨2048 + k, by omega⟩) + ∑ k : Fin 512, f ⟨3072 + k, by omega⟩ := by
  rw [Fin.sum_univ_add (a := 3072) (b := 512) f, Fin.sum_univ_add (a := 2048) (b := 1024), Fin.sum_univ_add (a := 1024) (b := 1024)]
  rfl

/-- A word is its high half, shifted back, and its low half. -/
theorem halves (s : BitVec 32) :
    BitVec.ofInt 32 (65536 * (IntOp.shrsi .vector s 16#32).toInt) + BitVec.ofInt 32 (IntOp.andi s 65535#32).toInt = s := by
  have hs := toInt_shrsi .vector s 16#32 16 (by omega) rfl
  have h1 : (IntOp.andi s 65535#32).toNat = s.toNat % 65536 := by
    unfold IntOp.andi; rw [BitVec.toNat_and]; exact Nat.and_two_pow_sub_one_eq_mod _ 16
  have h2 : (IntOp.andi s 65535#32).toInt = ((s.toNat % 65536 : ℕ) : ℤ) := by
    rw [BitVec.toInt_eq_toNat_cond, h1, if_pos (by omega)]
  rw [← BitVec.ofInt_add, hs, h2]
  conv_rhs => rw [← as_ofInt s]
  apply congrArg
  have h3 : s.toInt = s.toNat ∨ s.toInt = (s.toNat : ℤ) - 4294967296 := by
    rw [BitVec.toInt_eq_toNat_cond]; split <;> simp
  norm_num
  omega

/-- The kernel's sum over 128 lanes by halves, in the reals. -/
def laneSum (s : Fin 128 → BitVec 32) : BitVec 32 :=
  IntOp.addi (IntOp.shli .vector (Ideal.fptosi 32 (∑ l, ri (IntOp.shrsi .vector (s l) 16#32).toInt)) 16#32)
    (Ideal.fptosi 32 (∑ l, ri (IntOp.andi (s l) 65535#32).toInt))

/-- The sum of 128 lanes in two 16-bit halves is the int32 sum, also when it wraps. -/
theorem laneSum_eq (s : Fin 128 → BitVec 32) : laneSum s = ∑ l, s l := by
  unfold laneSum
  have hb : ∀ x : BitVec 32, |(IntOp.shrsi .vector x 16#32).toInt| ≤ 32768 := fun x => by
    rw [toInt_shrsi .vector x 16#32 16 (by omega) rfl, abs_le]
    have := toInt_lo x; have := toInt_hi x
    constructor <;> omega
  have hc : ∀ x : BitVec 32, |(IntOp.andi x 65535#32).toInt| ≤ 65535 := fun x => by
    have h1 : (IntOp.andi x 65535#32).toNat = x.toNat % 65536 := by
      unfold IntOp.andi; rw [BitVec.toNat_and]; exact Nat.and_two_pow_sub_one_eq_mod _ 16
    rw [BitVec.toInt_eq_toNat_cond, h1, if_pos (by omega), abs_le]
    constructor <;> omega
  rw [exact_sum' _ 32768 (fun l => hb (s l)) (by norm_num), exact_sum' _ 65535 (fun l => hc (s l)) (by norm_num),
    shli_eq, if_pos (by decide), ← ofInt_sum, show (16#32).toNat = 16 from rfl, BitVec.shiftLeft_eq_mul_twoPow,
    show BitVec.twoPow 32 16 = BitVec.ofInt 32 65536 by decide, ← BitVec.ofInt_mul, mul_comm, Finset.mul_sum, ofInt_sum]
  unfold IntOp.addi
  rw [← Finset.sum_add_distrib]
  exact Finset.sum_congr rfl fun l _ => halves (s l)
end Cert.Proof
-- ==== Proof.Chunk.lean ====
module
public import proofs.«01_k».proof.Proof.Gen.KernelIdeal.Value
public import Idealize.ShloMosaic.Lib.Pointwise
public import proofs.«01_k».proof.Proof.Gelu
public import proofs.«01_k».proof.Proof.Sums
@[expose] public section
set_option maxRecDepth 16384
noncomputable section
namespace Cert.Proof
open Idealize.ShloMosaic Idealize.ShloMosaic.TcCoe Idealize.SL.Sem Idealize.ShloMosaic.Tactic
open Cert.KernelIdeal Cert.KernelIdeal.Gen

/-- The whole 3584-long dot from its four chunks. -/
theorem dot_chunks (a b : Fin 3584 → BitVec 8) (c : BitVec 32) :
    IntOp.addi (IntOp.addi (IntOp.addi (IntOp.addi
      (Ideal.fptosi 32 (Ideal.liftRound Ideal.roundHalfEven (∑ k : Fin 1024, ri (a ⟨k, by omega⟩).toInt * ri (b ⟨k, by omega⟩).toInt))) c)
      (Ideal.fptosi 32 (Ideal.liftRound Ideal.roundHalfEven (∑ k : Fin 1024, ri (a ⟨1024 + k, by omega⟩).toInt * ri (b ⟨1024 + k, by omega⟩).toInt))))
      (Ideal.fptosi 32 (Ideal.liftRound Ideal.roundHalfEven (∑ k : Fin 1024, ri (a ⟨2048 + k, by omega⟩).toInt * ri (b ⟨2048 + k, by omega⟩).toInt))))
      (Ideal.fptosi 32 (Ideal.liftRound Ideal.roundHalfEven (∑ k : Fin 512, ri (a ⟨3072 + k, by omega⟩).toInt * ri (b ⟨3072 + k, by omega⟩).toInt)))
      = (∑ k, (a k).signExtend 32 * (b k).signExtend 32) + c := by
  rw [dot_word (n := 1024) (by omega) (fun k => a ⟨k, by omega⟩), dot_word (n := 1024) (by omega) (fun k => a ⟨1024 + k, by omega⟩),
    dot_word (n := 1024) (by omega) (fun k => a ⟨2048 + k, by omega⟩), dot_word (n := 512) (by omega) (fun k => a ⟨3072 + k, by omega⟩), sum_cut]
  unfold IntOp.addi
  abel

section Product
variable (v4 : IVec S1x512 32) (v39 : Vec Ideal S3584x512 .i8) (v43 v50 v56 : Vec Ideal S256x1024 .bf16) (v62 : Vec Ideal S256x512 .bf16)
    (A : Fin 256 → Fin 3584 → BitVec 8)
    (h0 : ∀ r k, v43 (ix2 r k) = ri (A r ⟨k, by omega⟩).toInt) (h1 : ∀ r k, v50 (ix2 r k) = ri (A r ⟨1024 + k, by omega⟩).toInt)
    (h2 : ∀ r k, v56 (ix2 r k) = ri (A r ⟨2048 + k, by omega⟩).toInt) (h3 : ∀ r k, v62 (ix2 r k) = ri (A r ⟨3072 + k, by omega⟩).toInt)
    (r : Fin 256) (l : Fin 512)
include h0 h1 h2 h3

/-- The first product of the first 256 rows, at an index: the word sum of products plus the bias. -/
theorem pay109_at : k0_pay109 (F := Ideal) v4 v39 v43 v50 v56 v62 (ix2 r l)
      = (∑ k : Fin 3584, (A r k).signExtend 32 * (v39 (ix2 k l)).signExtend 32) + v4 (ix2 0 l) := by
  pointwise [k0_pay109, k0_pay107, dot_S256x1024_S1024x512_S256x512_1_0_0_1_n_n, dot_S256x512_S512x512_S256x512_1_0_0_1_n_n, h0, h1, h2, h3]
  exact dot_chunks (A r) (fun k => v39 (ix2 k l)) _

/-- The same of the last 256 rows. -/
theorem pay119_at : k0_pay119 (F := Ideal) v4 (k0_pay107 v39) v43 v50 v56 v62 (ix2 r l)
      = (∑ k : Fin 3584, (A r k).signExtend 32 * (v39 (ix2 k l)).signExtend 32) + v4 (ix2 0 l) := by
  pointwise [k0_pay119, k0_pay107, dot_S256x1024_S1024x512_S256x512_1_0_0_1_n_n, dot_S256x512_S512x512_S256x512_1_0_0_1_n_n, h0, h1, h2, h3]
  exact dot_chunks (A r) (fun k => v39 (ix2 k l)) _
end Product

section Elementwise
variable (v4 v6 : IVec S1x512 32) (v7 : Vec Ideal S1x512 .i32) (v39 : Vec Ideal S3584x512 .i8) (v43 v50 v56 : Vec Ideal S256x1024 .bf16) (v62 : Vec Ideal S256x512 .bf16)
  (r : Fin 256) (l : Fin 512)

/-- The first 256 rows' clipped pre-activation. -/
theorem pay113_at : k0_pay113 (F := Ideal) (k0_pay106 (k0_pay101 v7) (k0_pay102 v7))
    (k0_pay110 v4 v6 (k0_pay103 v7) v39 v43 v50 v56 v62) (k0_pay111 v4 v6 (k0_pay104 v7) (k0_pay105 v7) v39 v43 v50 v56 v62)
    (k0_pay112 (k0_pay103 v7)) (ix2 r l)
      = kClamp (krq (k0_pay109 v4 v39 v43 v50 v56 v62 (ix2 r l)) (v6 (ix2 0 l)) (v7 (ix2 0 l))) := by
  unfold k0_pay113 k0_pay110 k0_pay111 k0_pay112
  generalize k0_pay109 v4 v39 v43 v50 v56 v62 = a
  pointwise [k0_pay106, k0_pay101, k0_pay102, k0_pay103, k0_pay104, k0_pay105]
  rfl

/-- The last 256 rows' clipped pre-activation. -/
theorem pay121_at (a : IVec S256x512 32) : k0_pay121 (F := Ideal) v6 (k0_pay103 v7) (k0_pay104 v7) (k0_pay105 v7) (k0_pay106 (k0_pay101 v7) (k0_pay102 v7))
    a (k0_pay120 (k0_pay103 v7)) (ix2 r l)
      = kClamp (krq (a (ix2 r l)) (v6 (ix2 0 l)) (v7 (ix2 0 l))) := by
  pointwise [k0_pay121, k0_pay120, k0_pay106, k0_pay101, k0_pay102, k0_pay103, k0_pay104, k0_pay105]
  rfl
end Elementwise

/-- The first rows' stored pre-activation, from the clipped one. -/
theorem pay114_at (v38 : IVec S1x512 32) (v71 v77 v78 : IVec S256x512 32) (j : S256x512.Idx) :
    k0_pay114 (F := Ideal) v38 v71 v77 v78 j
      = (Ideal.fptosi 32 (Ideal.liftRound Ideal.roundHalfEven (k0_pay113 (F := Ideal) v38 v71 v77 v78 j))).truncate 16 := rfl
/-- The first rows' activation. -/
theorem pay115_at (v38 : IVec S1x512 32) (v71 v77 v78 : IVec S256x512 32) (j : S256x512.Idx) :
    k0_pay115 (F := Ideal) v38 v71 v77 v78 j = kAct (kPre (k0_pay113 (F := Ideal) v38 v71 v77 v78 j)) := rfl
/-- The first rows' stored activation. -/
theorem pay117_at (v38 : IVec S1x512 32) (v71 v77 v78 : IVec S256x512 32) (j : S256x512.Idx) :
    k0_pay117 (F := Ideal) (k0_pay116 v38 v71 v77 v78) j
      = (Ideal.fptosi 32 (Ideal.liftRound Ideal.roundHalfEven (k0_pay115 (F := Ideal) v38 v71 v77 v78 j + Ideal.ofBits .f32 0x40C00000#32))).truncate 8 := rfl
/-- The last rows' stored pre-activation. -/
theorem pay122_at (v6 v14 v22 v35 v38 : IVec S1x512 32) (a b : IVec S256x512 32) (j : S256x512.Idx) :
    k0_pay122 (F := Ideal) v6 v14 v22 v35 v38 a b j
      = (Ideal.fptosi 32 (Ideal.liftRound Ideal.roundHalfEven (k0_pay121 (F := Ideal) v6 v14 v22 v35 v38 a b j))).truncate 16 := rfl
/-- The last rows' activation. -/
theorem pay1_at (v6 v14 v22 v35 v38 : IVec S1x512 32) (a b : IVec S256x512 32) (j : S256x512.Idx) :
    k0_pay1 (F := Ideal) (k0_pay123 (F := Ideal) v6 v14 v22 v35 v38 a b) j = kAct (kPre (k0_pay121 (F := Ideal) v6 v14 v22 v35 v38 a b j)) := rfl
/-- The last rows' stored activation. -/
theorem pay2_at (v : FVec Ideal S256x512 .f32) (j : S256x512.Idx) :
    k0_pay2 (F := Ideal) v j
      = (Ideal.fptosi 32 (Ideal.liftRound Ideal.roundHalfEven (k0_pay1 (F := Ideal) v j + Ideal.ofBits .f32 0x40C00000#32))).truncate 8 := rfl

/-- One step of the second product, at an index, from integer activations within bounds. -/
theorem second_word (f : Fin 512 → ℤ) (w : Fin 512 → BitVec 8) (hf : ∀ k, 0 ≤ f k ∧ f k ≤ 255) :
    Ideal.fptosi 32 (Ideal.liftRound Ideal.roundHalfEven (∑ k, ri (f k - 6) * ri (w k).toInt))
      = ∑ k, (BitVec.ofInt 32 (f k) - 6#32) * (w k).signExtend 32 := by
  simp only [ri_mul]
  rw [exact_sum _ 32000]
  · refine Finset.sum_congr rfl fun k _ => ?_
    rw [BitVec.ofInt_mul, ← ofInt_sub]; rfl
  · intro k
    obtain ⟨h1, h2⟩ := hf k
    obtain ⟨h3, h4⟩ := toInt8 (w k)
    rw [abs_le]; constructor <;> nlinarith
  · norm_num

/-- The second product of the first 256 rows adds to the accumulator the int32 sum of the activations, less six, times the weights. -/
theorem pay118_at (w2 : Vec Ideal S512x3584 .i8) (act : FVec Ideal S256x512 .f32) (acc : Vec Ideal S256x3584 .i32) (f : Fin 256 → Fin 512 → ℤ)
    (ha : ∀ r l, act (ix2 r l) = ri (f r l - 6)) (hf : ∀ r l, 0 ≤ f r l ∧ f r l ≤ 255) (r : Fin 256) (j : Fin 3584) :
    k0_pay118 (F := Ideal) (k0_pay108 w2) act acc (ix2 r j)
      = acc (ix2 r j) + ∑ l : Fin 512, (BitVec.ofInt 32 (f r l) - 6#32) * (w2 (ix2 l j)).signExtend 32 := by
  pointwise [k0_pay118, k0_pay108, dot_S256x512_S512x3584_S256x3584_1_0_0_1_n_n, ha]
  exact congrArg (acc (ix2 r j) + ·) (second_word (f r) (fun l => w2 (ix2 l j)) (hf r))

/-- The second product of the last 256 rows adds the same to its accumulator. -/
theorem pay3_at (w2 : Vec Ideal S512x3584 .i8) (v : FVec Ideal S256x512 .f32) (acc : Vec Ideal S256x3584 .i32) (f : Fin 256 → Fin 512 → ℤ)
    (ha : ∀ r l, k0_pay1 (F := Ideal) v (ix2 r l) = ri (f r l - 6)) (hf : ∀ r l, 0 ≤ f r l ∧ f r l ≤ 255) (r : Fin 256) (j : Fin 3584) :
    k0_pay3 (F := Ideal) (k0_pay108 w2) v acc (ix2 r j)
      = acc (ix2 r j) + ∑ l : Fin 512, (BitVec.ofInt 32 (f r l) - 6#32) * (w2 (ix2 l j)).signExtend 32 := by
  pointwise [k0_pay3, k0_pay108, dot_S256x512_S512x3584_S256x3584_1_0_0_1_n_n, ha]
  exact congrArg (acc (ix2 r j) + ·) (second_word (f r) (fun l => w2 (ix2 l j)) (hf r))
end Cert.Proof
-- ==== Proof.Half.lean ====
module
public import proofs.«01_k».proof.Proof.Chunk
public import Idealize.ShloMosaic.Lib.Pipeline.ValueKit
public import Idealize.ShloMosaic.Lib.Pipeline.ReadBack
@[expose] public section
set_option maxRecDepth 16384
noncomputable section
namespace Cert.Proof
open Idealize.ShloMosaic Idealize.ShloMosaic.TcCoe Idealize.SL.Sem Idealize.ShloMosaic.Tactic
open Cert.KernelIdeal Cert.KernelIdeal.Gen

/-- The quantised pre-activation of one row of `x` and one column of `w1`, with the column's bias, multiplier and exponent. -/
def qOf (X w : Fin 3584 → BitVec 8) (b m k : BitVec 32) : BitVec 32 :=
  qWord (rq ((∑ k, (X k).signExtend 32 * (w k).signExtend 32) + b) m k)

/-- One row's share of the second product, over one block of the hidden columns. -/
def stepOf (q : Fin 512 → BitVec 32) (w : Fin 512 → BitVec 8) : BitVec 32 :=
  ∑ l, (hWide (q l) - 6#32) * (w l).signExtend 32

/-- The word of the activation is the host's activation. -/
theorem ofInt_hInt (r : BitVec 32) : BitVec.ofInt 32 (hInt (qWord r).toInt) = hWide (qWord r) := by
  obtain ⟨h1, h2⟩ := qWord_bounds r
  rw [← hWide_eq _ h1 h2, as_ofInt]

/-- Positions within a row's four chunks. -/
def at0 (k : Fin 1024) : Fin 3584 := ⟨k, by omega⟩
/-- Columns 1024 to 2047 of a row. -/
def at1 (k : Fin 1024) : Fin 3584 := ⟨1024 + k, by omega⟩
/-- Columns 2048 to 3071 of a row. -/
def at2 (k : Fin 1024) : Fin 3584 := ⟨2048 + k, by omega⟩
/-- Columns 3072 to 3583 of a row. -/
def at3 (k : Fin 512) : Fin 3584 := ⟨3072 + k, by omega⟩
/-- Rows 0 to 255 of a block. -/
def loRow (r : Fin 256) : Fin 512 := ⟨r.val, by omega⟩
/-- Rows 256 to 511 of a block. -/
def hiRow (r : Fin 256) : Fin 512 := ⟨256 + r.val, by omega⟩

section Half
variable (p0 p1 p2 : Vec Ideal S1x512 .i32) (v39 : Vec Ideal S3584x512 .i8) (v43 v50 v56 : Vec Ideal S256x1024 .bf16) (v62 : Vec Ideal S256x512 .bf16)
    (A : Fin 256 → Fin 3584 → BitVec 8)
    (h0 : ∀ r k, v43 (ix2 r k) = ri (A r (at0 k)).toInt) (h1 : ∀ r k, v50 (ix2 r k) = ri (A r (at1 k)).toInt)
    (h2 : ∀ r k, v56 (ix2 r k) = ri (A r (at2 k)).toInt) (h3 : ∀ r k, v62 (ix2 r k) = ri (A r (at3 k)).toInt)
include h0 h1 h2 h3

/-- The clipped pre-activations of the first 256 rows, as floats. -/
theorem lo_clamp (r : Fin 256) (l : Fin 512) : k0_pay113 (F := Ideal) (k0_pay106 (k0_pay101 p2) (k0_pay102 p2))
    (k0_pay110 (k0_pay99 p0) (k0_pay100 p1) (k0_pay103 p2) v39 v43 v50 v56 v62) (k0_pay111 (k0_pay99 p0) (k0_pay100 p1) (k0_pay104 p2) (k0_pay105 p2) v39 v43 v50 v56 v62)
    (k0_pay112 (k0_pay103 p2)) (ix2 r l)
      = kClamp (rq ((∑ k : Fin 3584, (A r k).signExtend 32 * (v39 (ix2 k l)).signExtend 32) + p0 (ix2 0 l)) (p1 (ix2 0 l)) (p2 (ix2 0 l))) := by
  rw [pay113_at, pay109_at _ _ _ _ _ _ A h0 h1 h2 h3, krq_eq]
  congr 2
  · pointwise [k0_pay99]
  · pointwise [k0_pay100]

/-- The clipped pre-activations of the last 256 rows, as floats. -/
theorem hi_clamp (r : Fin 256) (l : Fin 512) : k0_pay121 (F := Ideal) (k0_pay100 p1) (k0_pay103 p2) (k0_pay104 p2) (k0_pay105 p2) (k0_pay106 (k0_pay101 p2) (k0_pay102 p2))
    (k0_pay119 (k0_pay99 p0) (k0_pay107 v39) v43 v50 v56 v62) (k0_pay120 (k0_pay103 p2)) (ix2 r l)
      = kClamp (rq ((∑ k : Fin 3584, (A r k).signExtend 32 * (v39 (ix2 k l)).signExtend 32) + p0 (ix2 0 l)) (p1 (ix2 0 l)) (p2 (ix2 0 l))) := by
  rw [pay121_at, pay119_at _ _ _ _ _ _ A h0 h1 h2 h3, krq_eq]
  congr 2
  · pointwise [k0_pay99]
  · pointwise [k0_pay100]

/-- The first 256 rows' stored pre-activation. -/
theorem lo_q (r : Fin 256) (l : Fin 512) : k0_pay114 (F := Ideal) (k0_pay106 (k0_pay101 p2) (k0_pay102 p2))
    (k0_pay110 (k0_pay99 p0) (k0_pay100 p1) (k0_pay103 p2) v39 v43 v50 v56 v62) (k0_pay111 (k0_pay99 p0) (k0_pay100 p1) (k0_pay104 p2) (k0_pay105 p2) v39 v43 v50 v56 v62)
    (k0_pay112 (k0_pay103 p2)) (ix2 r l)
      = (qOf (A r) (fun k => v39 (ix2 k l)) (p0 (ix2 0 l)) (p1 (ix2 0 l)) (p2 (ix2 0 l))).truncate 16 := by
  rw [pay114_at, lo_clamp _ _ _ _ _ _ _ _ A h0 h1 h2 h3, kq_eq]; rfl

/-- The last 256 rows' stored pre-activation. -/
theorem hi_q (r : Fin 256) (l : Fin 512) : k0_pay122 (F := Ideal) (k0_pay100 p1) (k0_pay103 p2) (k0_pay104 p2) (k0_pay105 p2) (k0_pay106 (k0_pay101 p2) (k0_pay102 p2))
    (k0_pay119 (k0_pay99 p0) (k0_pay107 v39) v43 v50 v56 v62) (k0_pay120 (k0_pay103 p2)) (ix2 r l)
      = (qOf (A r) (fun k => v39 (ix2 k l)) (p0 (ix2 0 l)) (p1 (ix2 0 l)) (p2 (ix2 0 l))).truncate 16 := by
  rw [pay122_at, hi_clamp _ _ _ _ _ _ _ _ A h0 h1 h2 h3, kq_eq]; rfl

/-- The activations of the first 256 rows, as floats less six. -/
theorem lo_act (r : Fin 256) (l : Fin 512) : k0_pay115 (F := Ideal) (k0_pay106 (k0_pay101 p2) (k0_pay102 p2))
    (k0_pay110 (k0_pay99 p0) (k0_pay100 p1) (k0_pay103 p2) v39 v43 v50 v56 v62) (k0_pay111 (k0_pay99 p0) (k0_pay100 p1) (k0_pay104 p2) (k0_pay105 p2) v39 v43 v50 v56 v62)
    (k0_pay112 (k0_pay103 p2)) (ix2 r l)
      = kAct (kPre (ri (qOf (A r) (fun k => v39 (ix2 k l)) (p0 (ix2 0 l)) (p1 (ix2 0 l)) (p2 (ix2 0 l))).toInt)) := by
  rw [pay115_at, lo_clamp _ _ _ _ _ _ _ _ A h0 h1 h2 h3, kClamp_eq]; rfl

/-- The activations of the last 256 rows, as floats less six. -/
theorem hi_act (r : Fin 256) (l : Fin 512) : k0_pay1 (F := Ideal) (k0_pay123 (F := Ideal) (k0_pay100 p1) (k0_pay103 p2) (k0_pay104 p2) (k0_pay105 p2) (k0_pay106 (k0_pay101 p2) (k0_pay102 p2))
    (k0_pay119 (k0_pay99 p0) (k0_pay107 v39) v43 v50 v56 v62) (k0_pay120 (k0_pay103 p2))) (ix2 r l)
      = kAct (kPre (ri (qOf (A r) (fun k => v39 (ix2 k l)) (p0 (ix2 0 l)) (p1 (ix2 0 l)) (p2 (ix2 0 l))).toInt)) := by
  rw [pay1_at, hi_clamp _ _ _ _ _ _ _ _ A h0 h1 h2 h3, kClamp_eq]; rfl

/-- The first 256 rows' stored activation. -/
theorem lo_h (r : Fin 256) (l : Fin 512) : k0_pay117 (F := Ideal) (k0_pay116 (k0_pay106 (k0_pay101 p2) (k0_pay102 p2))
    (k0_pay110 (k0_pay99 p0) (k0_pay100 p1) (k0_pay103 p2) v39 v43 v50 v56 v62) (k0_pay111 (k0_pay99 p0) (k0_pay100 p1) (k0_pay104 p2) (k0_pay105 p2) v39 v43 v50 v56 v62)
    (k0_pay112 (k0_pay103 p2))) (ix2 r l)
      = (hWide (qOf (A r) (fun k => v39 (ix2 k l)) (p0 (ix2 0 l)) (p1 (ix2 0 l)) (p2 (ix2 0 l)))).truncate 8 := by
  obtain ⟨b1, b2⟩ := qWord_bounds (rq ((∑ k : Fin 3584, (A r k).signExtend 32 * (v39 (ix2 k l)).signExtend 32) + p0 (ix2 0 l)) (p1 (ix2 0 l)) (p2 (ix2 0 l)))
  rw [pay117_at, lo_act _ _ _ _ _ _ _ _ A h0 h1 h2 h3]
  unfold qOf
  rw [kh_eq _ b1 b2, as_ofInt]

/-- The last 256 rows' stored activation. -/
theorem hi_h (r : Fin 256) (l : Fin 512) : k0_pay2 (F := Ideal) (k0_pay123 (F := Ideal) (k0_pay100 p1) (k0_pay103 p2) (k0_pay104 p2) (k0_pay105 p2) (k0_pay106 (k0_pay101 p2) (k0_pay102 p2))
    (k0_pay119 (k0_pay99 p0) (k0_pay107 v39) v43 v50 v56 v62) (k0_pay120 (k0_pay103 p2))) (ix2 r l)
      = (hWide (qOf (A r) (fun k => v39 (ix2 k l)) (p0 (ix2 0 l)) (p1 (ix2 0 l)) (p2 (ix2 0 l)))).truncate 8 := by
  obtain ⟨b1, b2⟩ := qWord_bounds (rq ((∑ k : Fin 3584, (A r k).signExtend 32 * (v39 (ix2 k l)).signExtend 32) + p0 (ix2 0 l)) (p1 (ix2 0 l)) (p2 (ix2 0 l)))
  rw [pay2_at, hi_act _ _ _ _ _ _ _ _ A h0 h1 h2 h3]
  unfold qOf
  rw [kh_eq _ b1 b2, as_ofInt]

/-- The first 256 rows' step of the second product. -/
theorem lo_acc (w2 : Vec Ideal S512x3584 .i8) (acc : Vec Ideal S256x3584 .i32) (r : Fin 256) (j : Fin 3584) :
    k0_pay118 (F := Ideal) (k0_pay108 w2) (k0_pay115 (k0_pay106 (k0_pay101 p2) (k0_pay102 p2))
    (k0_pay110 (k0_pay99 p0) (k0_pay100 p1) (k0_pay103 p2) v39 v43 v50 v56 v62) (k0_pay111 (k0_pay99 p0) (k0_pay100 p1) (k0_pay104 p2) (k0_pay105 p2) v39 v43 v50 v56 v62)
    (k0_pay112 (k0_pay103 p2))) acc (ix2 r j)
      = acc (ix2 r j) + stepOf (fun l => qOf (A r) (fun k => v39 (ix2 k l)) (p0 (ix2 0 l)) (p1 (ix2 0 l)) (p2 (ix2 0 l))) (fun l => w2 (ix2 l j)) := by
  rw [pay118_at w2 _ acc (fun r l => hInt (qOf (A r) (fun k => v39 (ix2 k l)) (p0 (ix2 0 l)) (p1 (ix2 0 l)) (p2 (ix2 0 l))).toInt) _ (fun _ _ => hInt_bounds _)]
  · unfold stepOf qOf
    simp only [ofInt_hInt]
  · intro r l
    obtain ⟨b1, b2⟩ := qWord_bounds (rq ((∑ k : Fin 3584, (A r k).signExtend 32 * (v39 (ix2 k l)).signExtend 32) + p0 (ix2 0 l)) (p1 (ix2 0 l)) (p2 (ix2 0 l)))
    rw [lo_act _ _ _ _ _ _ _ _ A h0 h1 h2 h3]
    unfold qOf
    rw [kAct_eq _ b1 b2]

/-- The last 256 rows' step of the second product. -/
theorem hi_acc (w2 : Vec Ideal S512x3584 .i8) (acc : Vec Ideal S256x3584 .i32) (r : Fin 256) (j : Fin 3584) :
    k0_pay3 (F := Ideal) (k0_pay108 w2) (k0_pay123 (F := Ideal) (k0_pay100 p1) (k0_pay103 p2) (k0_pay104 p2) (k0_pay105 p2) (k0_pay106 (k0_pay101 p2) (k0_pay102 p2))
    (k0_pay119 (k0_pay99 p0) (k0_pay107 v39) v43 v50 v56 v62) (k0_pay120 (k0_pay103 p2))) acc (ix2 r j)
      = acc (ix2 r j) + stepOf (fun l => qOf (A r) (fun k => v39 (ix2 k l)) (p0 (ix2 0 l)) (p1 (ix2 0 l)) (p2 (ix2 0 l))) (fun l => w2 (ix2 l j)) := by
  rw [pay3_at w2 _ acc (fun r l => hInt (qOf (A r) (fun k => v39 (ix2 k l)) (p0 (ix2 0 l)) (p1 (ix2 0 l)) (p2 (ix2 0 l))).toInt) _ (fun _ _ => hInt_bounds _)]
  · unfold stepOf qOf
    simp only [ofInt_hInt]
  · intro r l
    obtain ⟨b1, b2⟩ := qWord_bounds (rq ((∑ k : Fin 3584, (A r k).signExtend 32 * (v39 (ix2 k l)).signExtend 32) + p0 (ix2 0 l)) (p1 (ix2 0 l)) (p2 (ix2 0 l)))
    rw [hi_act _ _ _ _ _ _ _ _ A h0 h1 h2 h3]
    unfold qOf
    rw [kAct_eq _ b1 b2]
end Half

section Rows
variable {n : Nat} {e : EltTy}
/-- Rows from 256 on, under a store of them. -/
theorem canon_hi (inb : ∀ a : Fin 2, (![256, 0] : Fin 2 → Nat) a + (![256, n] : Fin 2 → Nat) a ≤ (⟨2, ![512, n]⟩ : Shape).size a)
    (W : (⟨2, ![256, n]⟩ : Shape).Idx → Elt Ideal e) (L : List (View.Piece (Elt Ideal) (⟨2, ![512, n]⟩ : Shape) e)) (r : Fin 256) (l : Fin n) :
    View.canon (⟨Rect.unit (s := ⟨2, ![512, n]⟩) ![256, 0] ![256, n] inb, W⟩ :: L) (ix2 (hiRow r) l) = W (ix2 r l) := by
  have h := View.canon_cons_emb (Val := Elt Ideal) (Rect.unit (s := ⟨2, ![512, n]⟩) ![256, 0] ![256, n] inb) W L (ix2 r l)
  rw [← h]
  congr 1
  funext a
  apply Fin.ext
  refine Eq.trans ?_ (Rect.idx_unit_val _ _ inb (ix2 r l) a).symm
  match a with
  | ⟨0, _⟩ => rfl
  | ⟨1, _⟩ => exact (Nat.zero_add _).symm
/-- Rows below 256, under a store of them. -/
theorem canon_lo (inb : ∀ a : Fin 2, (![0, 0] : Fin 2 → Nat) a + (![256, n] : Fin 2 → Nat) a ≤ (⟨2, ![512, n]⟩ : Shape).size a)
    (W : (⟨2, ![256, n]⟩ : Shape).Idx → Elt Ideal e) (L : List (View.Piece (Elt Ideal) (⟨2, ![512, n]⟩ : Shape) e)) (r : Fin 256) (l : Fin n) :
    View.canon (⟨Rect.unit (s := ⟨2, ![512, n]⟩) ![0, 0] ![256, n] inb, W⟩ :: L) (ix2 (loRow r) l) = W (ix2 r l) := by
  have h := View.canon_cons_emb (Val := Elt Ideal) (Rect.unit (s := ⟨2, ![512, n]⟩) ![0, 0] ![256, n] inb) W L (ix2 r l)
  rw [← h]
  congr 1
  funext a
  apply Fin.ext
  refine Eq.trans ?_ (Rect.idx_unit_val _ _ inb (ix2 r l) a).symm
  match a with
  | ⟨0, _⟩ => exact (Nat.zero_add _).symm
  | ⟨1, _⟩ => exact (Nat.zero_add _).symm
/-- Rows below 256 do not meet a store of the others. -/
theorem canon_hi_off (inb : ∀ a : Fin 2, (![256, 0] : Fin 2 → Nat) a + (![256, n] : Fin 2 → Nat) a ≤ (⟨2, ![512, n]⟩ : Shape).size a)
    (W : (⟨2, ![256, n]⟩ : Shape).Idx → Elt Ideal e) (L : List (View.Piece (Elt Ideal) (⟨2, ![512, n]⟩ : Shape) e)) (r : Fin 256) (l : Fin n) :
    View.canon (⟨Rect.unit (s := ⟨2, ![512, n]⟩) ![256, 0] ![256, n] inb, W⟩ :: L) (ix2 (loRow r) l) = View.canon L (ix2 (loRow r) l) := by
  refine View.canon_cons_of_not_mem _ _ fun hm => ?_
  have h := (Rect.mem_set_unit (inb := inb)).1 hm (0 : Fin 2)
  have h' : 256 ≤ r.val := h.1
  omega
/-- Rows from 256 on do not meet a store of the others. -/
theorem canon_lo_off (inb : ∀ a : Fin 2, (![0, 0] : Fin 2 → Nat) a + (![256, n] : Fin 2 → Nat) a ≤ (⟨2, ![512, n]⟩ : Shape).size a)
    (W : (⟨2, ![256, n]⟩ : Shape).Idx → Elt Ideal e) (L : List (View.Piece (Elt Ideal) (⟨2, ![512, n]⟩ : Shape) e)) (r : Fin 256) (l : Fin n) :
    View.canon (⟨Rect.unit (s := ⟨2, ![512, n]⟩) ![0, 0] ![256, n] inb, W⟩ :: L) (ix2 (hiRow r) l) = View.canon L (ix2 (hiRow r) l) := by
  refine View.canon_cons_of_not_mem _ _ fun hm => ?_
  have h := (Rect.mem_set_unit (inb := inb)).1 hm (0 : Fin 2)
  have h' : 256 + r.val < 0 + 256 := h.2
  omega
/-- The two stores together, against a function of the rows. -/
theorem canon_rows (inb inb') (W1 W0 : (⟨2, ![256, n]⟩ : Shape).Idx → Elt Ideal e) (L : List (View.Piece (Elt Ideal) (⟨2, ![512, n]⟩ : Shape) e))
    (G : Fin 512 → Fin n → Elt Ideal e) (h1 : ∀ r l, W1 (ix2 r l) = G (hiRow r) l) (h0 : ∀ r l, W0 (ix2 r l) = G (loRow r) l)
    (R : Fin 512) (l : Fin n) :
    View.canon (⟨Rect.unit (s := ⟨2, ![512, n]⟩) ![256, 0] ![256, n] inb, W1⟩ :: ⟨Rect.unit (s := ⟨2, ![512, n]⟩) ![0, 0] ![256, n] inb', W0⟩ :: L) (ix2 R l) = G R l := by
  by_cases h : R.val < 256
  · exact (canon_hi_off inb W1 _ ⟨R.val, h⟩ l).trans ((canon_lo inb' W0 L ⟨R.val, h⟩ l).trans (h0 ⟨R.val, h⟩ l))
  · have e : R = hiRow ⟨R.val - 256, by omega⟩ := Fin.ext (by show R.val = 256 + (R.val - 256); omega)
    rw [e]
    exact (canon_hi inb W1 _ ⟨R.val - 256, by omega⟩ l).trans (h1 _ l)
end Rows
end Cert.Proof
-- ==== Proof.Norm.lean ====
module
public import proofs.«01_k».proof.Proof.Gen.KernelIdeal.Value
public import Idealize.ShloMosaic.Lib.Pointwise
public import proofs.«01_k».proof.Proof.Division
public import proofs.«01_k».proof.Proof.Requant
public import proofs.«01_k».proof.Proof.Sums
@[expose] public section
set_option maxHeartbeats 400000
set_option maxRecDepth 16384
namespace Cert.Proof
open Idealize.ShloMosaic Idealize.ShloMosaic.TcCoe Idealize.SL.Sem Idealize.ShloMosaic.Tactic Cert.KernelIdeal Cert.KernelIdeal.Gen

variable (v s q : IVec S16x1 32) (i : S16x1.Idx)

/-- The kernel's first iterate of the square root is one step from 65536. -/
theorem newton_1 (a : IVec S16x3584 32) (b c : IVec S16x128 32) :
    k0_pay17 k0_pay13 (k0_pay14 (F := Ideal)) (k0_pay15 (F := Ideal) a b c) (k0_pay16 (F := Ideal) a b c) i
      = kstep (k0_pay12 (F := Ideal) a b c i) 65536#32 := rfl
/-- The quotient that the second iterate uses. -/
theorem newton_2 (x y : IVec S16x1 32) :
    k0_pay18 v k0_pay13 (k0_pay14 (F := Ideal)) x y i = kfd (v i) (k0_pay17 k0_pay13 (k0_pay14 (F := Ideal)) x y i) := rfl
/-- Iterate 3 of the kernel's square root is one step from the mean of the iterate before last and its quotient. -/
theorem newton_3 : k0_pay19 (F := Ideal) v s q i = kstep (v i) (IntOp.shrsi .vector (IntOp.addi (s i) (q i)) 1#32) := rfl
/-- Iterate 5 of the kernel's square root is two steps from iterate 3. -/
theorem newton_5 :
    k0_pay27 (F := Ideal) v (k0_pay19 (F := Ideal) v s q) (k0_pay24 (F := Ideal) v s q) (k0_pay25 (F := Ideal) v s q)
      (k0_pay26 (F := Ideal) v s q) 1#32 i = kstep (v i) (kstep (v i) (k0_pay19 (F := Ideal) v s q i)) := rfl
/-- Iterate 6 of the kernel's square root is one step from iterate 5. -/
theorem newton_6 (a b c : IVec S16x1 32) (d : IVec S16x1 1) :
    k0_pay30 v (k0_pay27 (F := Ideal) v a b c d 1#32) (k0_pay28 (F := Ideal) v a b c d 1#32) (k0_pay29 (F := Ideal) v) i
      = kstep (v i) (k0_pay27 (F := Ideal) v a b c d 1#32 i) := rfl
/-- Iterate 8 of the kernel's square root is two steps from iterate 6. -/
theorem newton_8 (f g : FVec Ideal S16x1 .f32) (hg : g = k0_pay29 (F := Ideal) v) :
    k0_pay38 (F := Ideal) v (k0_pay30 v s f g) (k0_pay36 v s f g) (k0_pay37 v s f g) 1#32 i
      = kstep (v i) (kstep (v i) (k0_pay30 v s f g i)) := by subst hg; rfl
/-- Iterate 10 of the kernel's square root is two steps from iterate 8. -/
theorem newton_10 (b : IVec S16x1 32) (d : IVec S16x1 1) :
    k0_pay43 (F := Ideal) v (k0_pay38 (F := Ideal) v s b d 1#32) (k0_pay40 (F := Ideal) v s b d 1#32) (k0_pay41 (F := Ideal) v s b d 1#32)
      (k0_pay42 (F := Ideal) v s b d 1#32) i = kstep (v i) (kstep (v i) (k0_pay38 (F := Ideal) v s b d 1#32 i)) := rfl
/-- Iterate 11 of the kernel's square root is one step from iterate 10. -/
theorem newton_11 : k0_pay44 (F := Ideal) v s i = kstep (v i) (s i) := rfl
/-- Iterate 13 of the kernel's square root is two steps from iterate 11. -/
theorem newton_13 :
    k0_pay52 (F := Ideal) v (k0_pay44 (F := Ideal) v s) (k0_pay49 (F := Ideal) v s) (k0_pay50 (F := Ideal) v s) (k0_pay51 (F := Ideal) v s) i
      = kstep (v i) (kstep (v i) (k0_pay44 (F := Ideal) v s i)) := rfl
/-- Iterate 14 of the kernel's square root is one step from iterate 13. -/
theorem newton_14 (a b c : IVec S16x1 32) :
    k0_pay56 v (k0_pay52 (F := Ideal) v s a b c) (k0_pay53 (F := Ideal) v s a b c) (k0_pay54 (F := Ideal) v s a b c)
      (k0_pay55 (F := Ideal) v s a b c) i = kstep (v i) (k0_pay52 (F := Ideal) v s a b c i) := rfl
/-- Iterate 16 of the kernel's square root is two steps from iterate 14. -/
theorem newton_16 (f : FVec Ideal S16x1 .f32) (a b : IVec S16x1 32) :
    k0_pay64 (F := Ideal) v (k0_pay56 v s f a b) (k0_pay62 v s f a b) (k0_pay63 v s f a b) i
      = kstep (v i) (kstep (v i) (k0_pay56 v s f a b i)) := rfl
/-- Iterate 18 of the kernel's square root is two steps from iterate 16. -/
theorem newton_18 (a b : IVec S16x1 32) :
    k0_pay72 (F := Ideal) v (k0_pay64 (F := Ideal) v s a b) (k0_pay69 (F := Ideal) v s a b) (k0_pay70 (F := Ideal) v s a b)
      (k0_pay71 (F := Ideal) v s a b) i = kstep (v i) (kstep (v i) (k0_pay64 (F := Ideal) v s a b i)) := rfl
/-- Iterate 19 of the kernel's square root is one step from iterate 18. -/
theorem newton_19 (a b : IVec S16x1 32) (d : IVec S16x1 1) :
    k0_pay74 v (k0_pay72 (F := Ideal) v s a b d) (k0_pay73 (F := Ideal) v s a b d) i = kstep (v i) (k0_pay72 (F := Ideal) v s a b d i) := rfl

/-- The sum of the 28 columns that fall into lane `l`. -/
def lanes (Z : Fin 3584 → BitVec 32) (l : Fin 128) : BitVec 32 := ∑ q : Fin 28, Z ⟨q.val * 128 + l.val, by omega⟩

/-- Summing the lanes sums all the columns. -/
theorem lanes_sum (Z : Fin 3584 → BitVec 32) : ∑ l, lanes Z l = ∑ j, Z j := by
  unfold lanes
  rw [Finset.sum_comm, ← Fintype.sum_prod_type' (f := fun (q : Fin 28) (l : Fin 128) => Z ⟨q.val * 128 + l.val, by omega⟩)]
  refine Fintype.sum_equiv (finProdFinEquiv (m := 28) (n := 128)) _ _ fun x => ?_
  congr 1
  apply Fin.ext
  show x.1.val * 128 + x.2.val = x.2.val + 128 * x.1.val
  omega

/-- The column of part `q` in lane `l`. -/
def laneCol (l : Fin 128) : Fin 28 → Fin 3584
  | ⟨0, _⟩ => ⟨l.val, by omega⟩
  | ⟨n + 1, _⟩ => ⟨(n + 1) * 128 + l.val, by omega⟩

/-- The number of that column. -/
theorem laneCol_val (l : Fin 128) (q : Fin 28) : (laneCol l q).val = q.val * 128 + l.val := by
  match q with
  | ⟨0, _⟩ => show l.val = 0 * 128 + l.val; omega
  | ⟨n + 1, _⟩ => rfl

/-- Twenty-eight words, added from left to right. -/
def add28 (w : Fin 28 → BitVec 32) : BitVec 32 :=
    IntOp.addi (IntOp.addi (IntOp.addi (IntOp.addi (IntOp.addi (IntOp.addi (IntOp.addi (IntOp.addi (IntOp.addi (IntOp.addi (IntOp.addi
    (IntOp.addi (IntOp.addi (IntOp.addi (IntOp.addi (IntOp.addi (IntOp.addi (IntOp.addi (IntOp.addi (IntOp.addi (IntOp.addi (IntOp.addi
    (IntOp.addi (IntOp.addi (IntOp.addi (IntOp.addi (IntOp.addi (w 0) (w 1)) (w 2)) (w 3)) (w 4)) (w 5)) (w 6))
    (w 7)) (w 8)) (w 9)) (w 10)) (w 11)) (w 12)) (w 13)) (w 14)) (w 15)) (w 16)) (w 17))
    (w 18)) (w 19)) (w 20)) (w 21)) (w 22)) (w 23)) (w 24)) (w 25)) (w 26)) (w 27)

/-- What the 28 additions leave in a lane. -/
theorem lanes_eq (Z : Fin 3584 → BitVec 32) (l : Fin 128) : lanes Z l = add28 fun q => Z (laneCol l q) := by
  have e : lanes Z l = ∑ q, Z (laneCol l q) := by
    unfold lanes; refine Finset.sum_congr rfl fun q _ => ?_; congr 1; exact Fin.ext (laneCol_val l q).symm
  rw [e]
  simp only [Fin.sum_univ_castSucc, Finset.univ_eq_empty, Finset.sum_empty, zero_add]
  rfl

variable (r : Fin 16) (j : Fin 3584)

/-- The shifted sum of a row. -/
theorem pay6_at (a b c d e : IVec S1x3584 32) (X : Vec Ideal S16x3584 .bf16) (A : Vec Ideal S16x3584 .i32) :
    k0_pay6 (F := Ideal) (k0_pay4 a b c d e X A) (k0_pay5 a b c d e X A) (ix2 r 0)
      = kMeanU (∑ j, k0_pay4 a b c d e X A (ix2 r j)) := by
  unfold k0_pay5
  generalize k0_pay4 a b c d e X A = Z
  rw [← lanes_sum (fun j => Z (ix2 r j)), ← laneSum_eq, funext (lanes_eq (fun j => Z (ix2 r j)))]
  pointwise [k0_pay6]
  rfl

/-- The sum of the squares of a row, at least one. -/
theorem pay12_at (Z : IVec S16x3584 32) (u : IVec S16x1 32) (f : FVec Ideal S16x1 .f32) :
    k0_pay12 (F := Ideal) (k0_pay9 Z u f) (k0_pay10 Z u f) (k0_pay11 Z u f) (ix2 r 0)
      = IntOp.maxsi (∑ j, k0_pay9 Z u f (ix2 r j)) 1#32 := by
  unfold k0_pay10 k0_pay11
  generalize k0_pay9 Z u f = Q
  rw [← lanes_sum (fun j => Q (ix2 r j)), ← laneSum_eq, funext (lanes_eq (fun j => Q (ix2 r j)))]
  pointwise [k0_pay12]
  rfl

/-- The accumulated row rescaled, plus the block of `x` shifted. -/
theorem pay4_at (mr kr : Vec Ideal S1x3584 .i32) (X : Vec Ideal S16x3584 .bf16) (A : Vec Ideal S16x3584 .i32)
    (n : BitVec 8) (hX : X (ix2 r j) = ri n.toInt) :
    k0_pay4 (k0_pay84 (F := Ideal) mr) (k0_pay87 (F := Ideal) kr) (k0_pay88 (F := Ideal) kr) (k0_pay89 (F := Ideal) kr)
        (k0_pay90 (F := Ideal) kr) X A (ix2 r j)
      = IntOp.addi (krq (A (ix2 r j)) (mr (ix2 0 j)) (kr (ix2 0 j))) (IntOp.shli .vector (n.signExtend 32) 4#32) := by
  have hn : Ideal.fptosi 32 (X (ix2 r j)) = n.signExtend 32 := by
    have h := toInt8 n
    rw [hX, fptosi_ri _ (by omega) (by omega)]; rfl
  rw [← hn]
  pointwise [k0_pay4, k0_pay84, k0_pay85, k0_pay86, k0_pay87, k0_pay88, k0_pay89, k0_pay90]
  rfl

/-- A row minus its mean. -/
theorem pay8_at (Z : IVec S16x3584 32) (L : IVec S16x128 32) :
    k0_pay8 Z (k0_pay6 (F := Ideal) Z L) (k0_pay7 (F := Ideal) Z L) (ix2 r j)
      = IntOp.subi (Z (ix2 r j)) (kDiv7 (k0_pay6 (F := Ideal) Z L (ix2 r 0))) := by
  unfold k0_pay7
  generalize k0_pay6 (F := Ideal) Z L = u
  pointwise [k0_pay8]
  rfl

/-- The square of the shifted deviation. -/
theorem pay9_at (Z : IVec S16x3584 32) (u : IVec S16x1 32) (f : FVec Ideal S16x1 .f32) :
    k0_pay9 Z u f (ix2 r j)
      = IntOp.muli (IntOp.shrsi .vector (k0_pay8 Z u f (ix2 r j)) 4#32) (IntOp.shrsi .vector (k0_pay8 Z u f (ix2 r j)) 4#32) := rfl

/-- The normalized row, from the pieces of the last step of the root. -/
theorem pay82_core (Y : IVec S16x3584 32) (s a : IVec S16x1 32) (b : IVec S16x1 1) :
    k0_pay82 (F := Ideal) Y s a b (ix2 r j)
      = IntOp.shrsi .vector (IntOp.muli (Y (ix2 r j)) (kFac (IntOp.shrsi .vector (IntOp.addi (s (ix2 r 0))
          (IntOp.subi (a (ix2 r 0)) (Scalar.select (b (ix2 r 0)) 1#32 0#32))) 1#32))) 16#32 := by
  pointwise [k0_pay82]
  generalize IntOp.shrsi .vector (IntOp.addi (s (ix2 r 0)) (IntOp.subi (a (ix2 r 0)) (Scalar.select (b (ix2 r 0)) 1#32 0#32))) 1#32 = t
  unfold kFac
  generalize IntOp.shli .vector (IntOp.addi t 1#32) 4#32 = w
  generalize 2147483647#32 = big
  have h1 : Ideal.ofBits .f32 0x3F800000#32 = 1 := by rw [ofBits_one]; simp [ri]
  unfold kfd
  rw [h1]
  rfl

/-- The normalized row, after the last step of the root. -/
theorem pay82_at (Y : IVec S16x3584 32) (v s : IVec S16x1 32) (f : FVec Ideal S16x1 .f32) :
    k0_pay82 (F := Ideal) Y (k0_pay74 v s f) (k0_pay80 v s f) (k0_pay81 v s f) (ix2 r j)
      = IntOp.shrsi .vector (IntOp.muli (Y (ix2 r j)) (kFac (kstep (v (ix2 r 0)) (k0_pay74 v s f (ix2 r 0))))) 16#32 := by
  rw [pay82_core]
  have h : IntOp.subi (k0_pay80 v s f (ix2 r 0)) (Scalar.select (k0_pay81 v s f (ix2 r 0)) 1#32 0#32)
    = kfd (v (ix2 r 0)) (k0_pay74 v s f (ix2 r 0)) := rfl
  rw [h]; unfold kstep; with_reducible rfl

/-- The rescaled, shifted and clipped row. -/
theorem pay95_at (mr kr bq : Vec Ideal S1x3584 .i32) (Y : IVec S16x3584 32) (s t : IVec S16x1 32) (b : IVec S16x1 1) :
    k0_pay95 (k0_pay91 (F := Ideal) mr) (k0_pay92 (F := Ideal) kr) bq (k0_pay82 (F := Ideal) Y s t b)
        (k0_pay83 (F := Ideal) (k0_pay91 (F := Ideal) mr) (k0_pay94 (k0_pay92 (F := Ideal) kr)) Y s t b) (ix2 r j)
      = ((IntOp.minsi 127#32 (IntOp.maxsi 4294967169#32 (IntOp.addi
          (krq (k0_pay82 (F := Ideal) Y s t b (ix2 r j)) (mr (ix2 0 j)) (kr (ix2 0 j))) (bq (ix2 0 j))))).truncate 8).signExtend 32 := by
  unfold k0_pay83
  generalize k0_pay82 (F := Ideal) Y s t b = n
  pointwise [k0_pay95, k0_pay91, k0_pay92, k0_pay93, k0_pay94]
  rfl

end Cert.Proof
-- ==== Proof.Row.lean ====
module
public import proofs.«01_k».proof.Proof.Norm
@[expose] public section
set_option maxRecDepth 16384
namespace Cert.Proof
open Idealize.ShloMosaic Idealize.ShloMosaic.TcCoe Idealize.SL.Sem Idealize.ShloMosaic.Tactic Cert.KernelIdeal Cert.KernelIdeal.Gen

/-- A row minus its rounded mean. -/
def lnY (Z : Fin 3584 → BitVec 32) (j : Fin 3584) : BitVec 32 := IntOp.subi (Z j) (hMean (∑ j, Z j))
/-- The square of a centred entry, shifted by four bits first. -/
def lnSq (Z : Fin 3584 → BitVec 32) (j : Fin 3584) : BitVec 32 :=
  IntOp.muli (IntOp.shrsi .host (lnY Z j) 4#32) (IntOp.shrsi .host (lnY Z j) 4#32)
/-- The sum of those squares, at least one. -/
def lnVar (Z : Fin 3584 → BitVec 32) : BitVec 32 := IntOp.maxsi (∑ j, lnSq Z j) 1#32
/-- Its root after twenty steps from 65536. -/
def lnRoot (v : BitVec 32) : BitVec 32 := (nstep v)^[20] 65536#32
/-- The normalized entry. -/
def lnN (Z : Fin 3584 → BitVec 32) (j : Fin 3584) : BitVec 32 :=
  IntOp.shrsi .host (IntOp.muli (lnY Z j) (hFac (lnRoot (lnVar Z)))) 16#32
/-- The normalized entry rescaled, shifted and clipped to a byte. -/
def lnOut (Z : Fin 3584 → BitVec 32) (m k b : BitVec 32) (j : Fin 3584) : BitVec 8 :=
  (IntOp.minsi 127#32 (IntOp.maxsi 4294967169#32 (IntOp.addi (rq (lnN Z j) m k) b))).truncate 8

/-- Arithmetic right shifts are the same in the kernel and on the host. -/
theorem shrsi_vec (x y : BitVec 32) : IntOp.shrsi .vector x y = IntOp.shrsi .host x y := by rw [shrsi_eq, shrsi_eq]

/-- Left shifts are the same in the kernel and on the host. -/
theorem shli_vec (x y : BitVec 32) : IntOp.shli .vector x y = IntOp.shli .host x y := by rw [shli_eq, shli_eq]

/-- The larger of a word and one is at least one. -/
theorem one_le_maxsi (x : BitVec 32) : 1 ≤ (IntOp.maxsi x 1#32).toInt := by
  unfold IntOp.maxsi
  split
  · rename_i h; simp [BitVec.slt] at h; first | omega | (have : (1#32).toInt = 1 := rfl; omega)
  · rename_i h; simp [BitVec.slt] at h; first | omega | (have : (1#32).toInt = 1 := rfl; omega)

/-- The kernel's twenty steps are the host's. -/
theorem ksteps (v : BitVec 32) (hv : 1 ≤ v.toInt) : (kstep v)^[20] 65536#32 = lnRoot v ∧ RootInv v (lnRoot v) :=
  iter_eq v 65536#32 hv (inv_start v) 20

/-- The row of bytes one pass of the loop leaves, from the row it finds. -/
theorem row_at (mr kr gm gk bq : Vec Ideal S1x3584 .i32) (X : Vec Ideal S16x3584 .bf16) (A : Vec Ideal S16x3584 .i32)
    (r : Fin 16) (j : Fin 3584) (x : Fin 3584 → BitVec 8) (hX : ∀ j, X (ix2 r j) = ri (x j).toInt) :
    let a := k0_pay84 (F := Ideal) mr
    let b := k0_pay87 (F := Ideal) kr
    let c := k0_pay88 (F := Ideal) kr
    let d := k0_pay89 (F := Ideal) kr
    let e := k0_pay90 (F := Ideal) kr
    let p0 := k0_pay4 a b c d e X A
    let p1 := k0_pay5 a b c d e X A
    let p2 := k0_pay6 (F := Ideal) p0 p1
    let p3 := k0_pay7 (F := Ideal) p0 p1
    let p4 := k0_pay8 p0 p2 p3
    let p5 := k0_pay9 p0 p2 p3
    let p6 := k0_pay10 p0 p2 p3
    let p7 := k0_pay11 p0 p2 p3
    let p8 := k0_pay12 (F := Ideal) p5 p6 p7
    let p9 := k0_pay15 (F := Ideal) p5 p6 p7
    let p10 := k0_pay16 (F := Ideal) p5 p6 p7
    let p11 := k0_pay17 k0_pay13 (k0_pay14 (F := Ideal)) p9 p10
    let p12 := k0_pay18 p8 k0_pay13 (k0_pay14 (F := Ideal)) p9 p10
    let p13 := k0_pay19 (F := Ideal) p8 p11 p12
    let p17 := k0_pay27 (F := Ideal) p8 p13 (k0_pay24 (F := Ideal) p8 p11 p12) (k0_pay25 (F := Ideal) p8 p11 p12) (k0_pay26 (F := Ideal) p8 p11 p12) 1#32
    let p18 := k0_pay28 (F := Ideal) p8 p13 (k0_pay24 (F := Ideal) p8 p11 p12) (k0_pay25 (F := Ideal) p8 p11 p12) (k0_pay26 (F := Ideal) p8 p11 p12) 1#32
    let p19 := k0_pay29 (F := Ideal) p8
    let p20 := k0_pay30 p8 p17 p18 p19
    let p21 := k0_pay36 p8 p17 p18 p19
    let p22 := k0_pay37 p8 p17 p18 p19
    let p23 := k0_pay38 (F := Ideal) p8 p20 p21 p22 1#32
    let p27 := k0_pay43 (F := Ideal) p8 p23 (k0_pay40 (F := Ideal) p8 p20 p21 p22 1#32) (k0_pay41 (F := Ideal) p8 p20 p21 p22 1#32) (k0_pay42 (F := Ideal) p8 p20 p21 p22 1#32)
    let p28 := k0_pay44 (F := Ideal) p8 p27
    let p29 := k0_pay49 (F := Ideal) p8 p27
    let p30 := k0_pay50 (F := Ideal) p8 p27
    let p31 := k0_pay51 (F := Ideal) p8 p27
    let p32 := k0_pay52 (F := Ideal) p8 p28 p29 p30 p31
    let p33 := k0_pay53 (F := Ideal) p8 p28 p29 p30 p31
    let p34 := k0_pay54 (F := Ideal) p8 p28 p29 p30 p31
    let p35 := k0_pay55 (F := Ideal) p8 p28 p29 p30 p31
    let p36 := k0_pay56 p8 p32 p33 p34 p35
    let p37 := k0_pay62 p8 p32 p33 p34 p35
    let p38 := k0_pay63 p8 p32 p33 p34 p35
    let p39 := k0_pay64 (F := Ideal) p8 p36 p37 p38
    let p43 := k0_pay72 (F := Ideal) p8 p39 (k0_pay69 (F := Ideal) p8 p36 p37 p38) (k0_pay70 (F := Ideal) p8 p36 p37 p38) (k0_pay71 (F := Ideal) p8 p36 p37 p38)
    let p44 := k0_pay73 (F := Ideal) p8 p39 (k0_pay69 (F := Ideal) p8 p36 p37 p38) (k0_pay70 (F := Ideal) p8 p36 p37 p38) (k0_pay71 (F := Ideal) p8 p36 p37 p38)
    let p45 := k0_pay74 p8 p43 p44
    let p46 := k0_pay80 p8 p43 p44
    let p47 := k0_pay81 p8 p43 p44
    k0_pay95 (k0_pay91 (F := Ideal) gm) (k0_pay92 (F := Ideal) gk) bq (k0_pay82 (F := Ideal) p4 p45 p46 p47)
        (k0_pay83 (F := Ideal) (k0_pay91 (F := Ideal) gm) (k0_pay94 (k0_pay92 (F := Ideal) gk)) p4 p45 p46 p47) (ix2 r j)
      = (lnOut (fun j => IntOp.addi (rq (A (ix2 r j)) (mr (ix2 0 j)) (kr (ix2 0 j))) (IntOp.shli .host ((x j).signExtend 32) 4#32))
          (gm (ix2 0 j)) (gk (ix2 0 j)) (bq (ix2 0 j)) j).signExtend 32 := by
  intro a b c d e p0 p1 p2 p3 p4 p5 p6 p7 p8 p9 p10 p11 p12 p13 p17 p18 p19 p20 p21 p22 p23 p27 p28 p29 p30 p31 p32 p33 p34 p35 p36 p37 p38 p39
    p43 p44 p45 p46 p47
  set Z : Fin 3584 → BitVec 32 := fun j =>
    IntOp.addi (rq (A (ix2 r j)) (mr (ix2 0 j)) (kr (ix2 0 j))) (IntOp.shli .host ((x j).signExtend 32) 4#32) with hZ
  have e0 : ∀ j, p0 (ix2 r j) = Z j := fun j => by
    rw [hZ]; refine (pay4_at r j mr kr X A (x j) (hX j)).trans ?_
    rw [krq_eq, shli_vec]
  have e2 : p2 (ix2 r 0) = kMeanU (∑ j, Z j) := by
    refine (pay6_at r a b c d e X A).trans ?_
    exact congrArg kMeanU (Finset.sum_congr rfl fun j _ => e0 j)
  have e4 : ∀ j, p4 (ix2 r j) = lnY Z j := fun j => by
    refine (pay8_at r j p0 p1).trans ?_
    rw [e0]; unfold lnY; rw [← mean_eq, ← e2]
  have e5 : ∀ j, p5 (ix2 r j) = lnSq Z j := fun j => by
    refine (pay9_at r j p0 p2 p3).trans ?_
    unfold lnSq
    rw [show k0_pay8 p0 p2 p3 (ix2 r j) = lnY Z j from e4 j, shrsi_vec]
  have e8 : p8 (ix2 r 0) = lnVar Z := by
    refine (pay12_at r p0 p2 p3).trans ?_
    unfold lnVar
    rw [Finset.sum_congr rfl fun j _ => e5 j]
  have hv : 1 ≤ (lnVar Z).toInt := one_le_maxsi _
  generalize hV : lnVar Z = V at e8 hv
  have e11 : p11 (ix2 r 0) = kstep V 65536#32 := by rw [← e8]; exact newton_1 _ _ _ _
  have e13 : p13 (ix2 r 0) = kstep V (kstep V (kstep V 65536#32)) := by
    refine (newton_3 p8 p11 p12 _).trans ?_
    rw [show p12 (ix2 r 0) = kfd (p8 (ix2 r 0)) (p11 (ix2 r 0)) from newton_2 _ _ _ _, e11, e8]; rfl
  have e17 : p17 (ix2 r 0) = (kstep V)^[2] (p13 (ix2 r 0)) := by
    rw [← e8]; exact newton_5 p8 p11 p12 _
  have e20 : p20 (ix2 r 0) = kstep V (p17 (ix2 r 0)) := by rw [← e8]; exact newton_6 p8 _ _ _ _ _
  have e23 : p23 (ix2 r 0) = (kstep V)^[2] (p20 (ix2 r 0)) := by rw [← e8]; exact newton_8 p8 _ _ _ _ rfl
  have e27 : p27 (ix2 r 0) = (kstep V)^[2] (p23 (ix2 r 0)) := by rw [← e8]; exact newton_10 p8 _ _ _ _
  have e28 : p28 (ix2 r 0) = kstep V (p27 (ix2 r 0)) := by rw [← e8]; exact newton_11 p8 _ _
  have e32 : p32 (ix2 r 0) = (kstep V)^[2] (p28 (ix2 r 0)) := by rw [← e8]; exact newton_13 p8 _ _
  have e36 : p36 (ix2 r 0) = kstep V (p32 (ix2 r 0)) := by rw [← e8]; exact newton_14 p8 _ _ _ _ _
  have e39 : p39 (ix2 r 0) = (kstep V)^[2] (p36 (ix2 r 0)) := by rw [← e8]; exact newton_16 p8 _ _ _ _ _
  have e43 : p43 (ix2 r 0) = (kstep V)^[2] (p39 (ix2 r 0)) := by rw [← e8]; exact newton_18 p8 _ _ _ _
  have e45 : p45 (ix2 r 0) = kstep V (p43 (ix2 r 0)) := by rw [← e8]; exact newton_19 p8 _ _ _ _ _
  have e48 : kstep V (p45 (ix2 r 0)) = lnRoot V := by
    rw [e45, e43, e39, e36, e32, e28, e27, e23, e20, e17, e13, ← (ksteps V hv).1]
    generalize 65536#32 = z
    rfl
  have e82 : k0_pay82 (F := Ideal) p4 p45 p46 p47 (ix2 r j) = lnN Z j := by
    refine (pay82_at r j p4 p8 p43 p44).trans ?_
    rw [show k0_pay74 p8 p43 p44 (ix2 r 0) = p45 (ix2 r 0) from rfl, e8, e48, e4, fac_eq V _ (ksteps V hv).2, shrsi_vec]
    unfold lnN; rw [hV]
  refine (pay95_at r j gm gk bq p4 p45 p46 p47).trans ?_
  rw [e82, krq_eq]; rfl
end Cert.Proof
-- ==== Proof.Loop.lean ====
module
public import proofs.«01_k».proof.Proof.Row
public import Idealize.ShloMosaic.Lib.Pipeline.ValueKit
public import Idealize.ShloMosaic.Lib.WritesUnit
@[expose] public section
set_option maxRecDepth 16384
set_option maxHeartbeats 1000000
noncomputable section
namespace Cert.Proof
open Idealize.ShloMosaic Idealize.ShloMosaic.TcCoe Idealize.SL.Sem Idealize.ShloMosaic.Tactic
open Cert.KernelIdeal Cert.KernelIdeal.Gen

variable (c : Dev nD) (i : grid0.Coords) (arg2 : Memref sig .tc .vmem S512x3584 .i8) (harg2 : arg2.IsWhole) (arg3 : Memref sig .tc .vmem S3584x512 .i8) (harg3 : arg3.IsWhole) (arg4 : Memref sig .tc .vmem S3x512 .i32) (harg4 : arg4.IsWhole) (arg5 : Memref sig .tc .vmem S512x3584 .i8) (harg5 : arg5.IsWhole) (arg6 : Memref sig .tc .vmem S6x3584 .i32) (harg6 : arg6.IsWhole) (arg7 : Memref sig .tc .vmem S512x3584 .i8) (harg7 : arg7.IsWhole) (arg8 : Memref sig .tc .vmem S512x512 .i16) (harg8 : arg8.IsWhole) (arg9 : Memref sig .tc .vmem S512x512 .i8) (harg9 : arg9.IsWhole) (arg10 : Memref sig .tc .vmem S512x3584 .bf16) (harg10 : arg10.IsWhole) (arg11 : Memref sig .tc .vmem S512x3584 .i32) (harg11 : arg11.IsWhole)
  (mr kr gm gk bq : Vec Ideal S1x3584 .i32)

/-- What the loop's pass leaves at a row, from the accumulated rows and the block of `x`. -/
def passed (x : Fin 512 → Fin 3584 → BitVec 8) (A : Fin 512 → Fin 3584 → BitVec 32) (R : Fin 512) (j : Fin 3584) : BitVec 32 :=
  (lnOut (fun j => IntOp.addi (rq (A R j) (mr (ix2 0 j)) (kr (ix2 0 j))) (IntOp.shli .host ((x R j).signExtend 32) 4#32))
    (gm (ix2 0 j)) (gk (ix2 0 j)) (bq (ix2 0 j)) j).signExtend 32

/-- One pass stores sixteen whole rows, each normalized. -/
theorem trip_at (h2 : k0_cond2 i = 1#1) (xs : Vec Ideal S512x3584 .bf16) (x : Fin 512 → Fin 3584 → BitVec 8)
    (hx : ∀ R j, xs (ix2 R j) = ri (x R j).toInt) (k : Fin k0_t1_loop.trips) (hk : k.val < 32)
    (f : BufTy.Contents (Elt Ideal) arg11.view.ty) (A : Fin 512 → Fin 3584 → BitVec 32)
    (hf : ∀ (r : Fin 16) (j : Fin 3584), arg11.view.read (Elt Ideal) f (ix2 ⟨16 * k.val + r.val, by omega⟩ j) = A ⟨16 * k.val + r.val, by omega⟩ j) :
    ∃ W : Vec Ideal S16x3584 .i32, tripL_k0_t1 (F := Ideal) Variants.none c none i arg2 harg2 arg3 harg3 arg4 harg4 arg5 harg5 arg6 harg6 arg7 harg7 arg8 harg8 arg9 harg9 arg10 harg10 arg11 harg11
        h2 (k0_pay84 (F := Ideal) mr) (k0_pay87 (F := Ideal) kr) (k0_pay88 (F := Ideal) kr) (k0_pay89 (F := Ideal) kr) (k0_pay90 (F := Ideal) kr)
        (k0_pay91 (F := Ideal) gm) (k0_pay92 (F := Ideal) gk) bq (harg10.unread xs) k f
        = [⟨Rect.unit (s := S512x3584) (k0_off1 k) S16x3584.size (k0_off1_inb i k h2), W⟩]
      ∧ ∀ (r : Fin 16) (j : Fin 3584), W (ix2 r j) = passed mr kr gm gk bq x A ⟨16 * k.val + r.val, by omega⟩ j := by
  refine ⟨?gW, ?gE, ?gP⟩
  case gE =>
    unfold tripL_k0_t1 trip_k0_t1
    dsimp only
    rfl
  case gP =>
    intro r j
    have hX : ∀ j, View.readAt (Elt Ideal) arg10.view (Rect.unit (s := S512x3584) (k0_off1 k) S16x3584.size (k0_off1_inb i k h2)).toLoadRect (harg10.unread xs) (ix2 r j)
        = ri (x ⟨16 * k.val + r.val, by omega⟩ j).toInt := fun j => by
      rw [View.readAt_eq_ld, harg10.read_unread, ← hx]
      refine View.ld_unit_apply_of _ _ _ _ _ _ fun a => ?_
      have ho := congrFun (k0_off1_eq k) a
      match a with
      | ⟨0, _⟩ => exact congrArg (· + r.val) ho.symm
      | ⟨1, _⟩ => exact (Nat.zero_add _).symm.trans (congrArg (· + j.val) ho.symm)
    have hA : ∀ j, View.readAt (Elt Ideal) arg11.view (Rect.unit (s := S512x3584) (k0_off1 k) S16x3584.size (k0_off1_inb i k h2)).toLoadRect f (ix2 r j)
        = A ⟨16 * k.val + r.val, by omega⟩ j := fun j => by
      rw [View.readAt_eq_ld, ← hf]
      refine View.ld_unit_apply_of _ _ _ _ _ _ fun a => ?_
      have ho := congrFun (k0_off1_eq k) a
      match a with
      | ⟨0, _⟩ => exact congrArg (· + r.val) ho.symm
      | ⟨1, _⟩ => exact (Nat.zero_add _).symm.trans (congrArg (· + j.val) ho.symm)
    refine (row_at mr kr gm gk bq _ _ r j (x ⟨16 * k.val + r.val, by omega⟩) hX).trans ?_
    unfold passed
    simp only [hA]

/-- The rows the loop has passed are normalized, the others as they were. -/
theorem loop_at (h2 : k0_cond2 i = 1#1) (xs : Vec Ideal S512x3584 .bf16) (x : Fin 512 → Fin 3584 → BitVec 8)
    (hx : ∀ R j, xs (ix2 R j) = ri (x R j).toInt) (G : BufTy.Contents (Elt Ideal) arg11.view.ty) (A : Fin 512 → Fin 3584 → BitVec 32)
    (hG : ∀ R j, arg11.view.read (Elt Ideal) G (ix2 R j) = A R j) (n : Nat) (hn : n ≤ 32) (R : Fin 512) (j : Fin 3584) :
    arg11.view.read (Elt Ideal) (arg11.view.writes (Elt Ideal) G (pb_k0_t1 (F := Ideal) Variants.none c none i arg2 harg2 arg3 harg3 arg4 harg4 arg5 harg5 arg6 harg6 arg7 harg7 arg8 harg8 arg9 harg9 arg10 harg10 arg11 harg11
        h2 (k0_pay84 (F := Ideal) mr) (k0_pay87 (F := Ideal) kr) (k0_pay88 (F := Ideal) kr) (k0_pay89 (F := Ideal) kr) (k0_pay90 (F := Ideal) kr)
        (k0_pay91 (F := Ideal) gm) (k0_pay92 (F := Ideal) gk) bq (harg10.unread xs) G n)) (ix2 R j)
      = if R.val < 16 * n then passed mr kr gm gk bq x A R j else A R j := by
  have ht : k0_t1_loop.trips = 32 := by decide +kernel
  induction n generalizing R j with
  | zero => rw [if_neg (by omega)]; exact hG R j
  | succ n ih =>
    obtain ⟨W, hW, hw⟩ := trip_at c i arg2 harg2 arg3 harg3 arg4 harg4 arg5 harg5 arg6 harg6 arg7 harg7 arg8 harg8 arg9 harg9 arg10 harg10 arg11 harg11 mr kr gm gk bq h2 xs x hx
      ⟨n, by omega⟩ (by show n < 32; omega) _ A (fun r j => by
        rw [ih (by omega)]; exact if_neg (by show ¬ 16 * n + r.val < 16 * n; omega))
    rw [pb_k0_t1_succ (k := ⟨n, by omega⟩), hW]
    refine (View.read_writes_cons_rows (d := ![512, 3584]) arg11.view G (size := S16x3584.size) (o := 16 * n) (W := 16) _ W _ (ix2 R j)
      (k0_off1_eq ⟨n, by omega⟩) rfl rfl).trans ?_
    split
    · rename_i h
      have h1 : 16 * n ≤ R.val := h.1
      have h3 : R.val < 16 * n + 16 := h.2
      rw [if_pos (by omega)]
      have e := hw ⟨R.val - 16 * n, by omega⟩ j
      have eR : (⟨16 * n + (R.val - 16 * n), by omega⟩ : Fin 512) = R := Fin.ext (by show 16 * n + (R.val - 16 * n) = R.val; omega)
      refine Eq.trans ?_ (e.trans ?_)
      · refine congrArg W ?_
        funext a
        match a with
        | ⟨0, _⟩ => apply Fin.ext; rw [Rect.unitLocal_val]; rfl
        | ⟨1, _⟩ => apply Fin.ext; rw [Rect.unitLocal_val]; rfl
      · exact congrArg (fun R => passed mr kr gm gk bq x A R j) eR
    · rename_i h
      have h1 : ¬ (16 * n ≤ R.val ∧ R.val < 16 * n + 16) := h
      refine (ih (by omega) R j).trans ?_
      refine if_congr ?_ rfl rfl
      omega
end Cert.Proof
-- ==== Proof.Block.lean ====
module
public import proofs.«01_k».proof.Proof.Half
public import proofs.«01_k».proof.Proof.Loop
@[expose] public section
set_option maxRecDepth 16384
set_option maxHeartbeats 1000000
noncomputable section
namespace Cert.Proof
open Idealize.ShloMosaic Idealize.ShloMosaic.TcCoe Idealize.SL.Sem Idealize.ShloMosaic.Tactic
open Cert.KernelIdeal Cert.KernelIdeal.Gen

/-- The zero offsets, as a function. -/
theorem hz2 : (![0, 0] : Fin 2 → Nat) = fun _ => 0 := funext fun a => by fin_cases a <;> rfl

/-- A rectangular load at an index. -/
theorem ld_at {M N m n : Nat} {e : EltTy} (X : (⟨2, ![M, N]⟩ : Shape).Idx → Elt Ideal e) (a b : Nat)
    (inb : ∀ x : Fin 2, (![a, b] : Fin 2 → Nat) x + (![m, n] : Fin 2 → Nat) x ≤ (⟨2, ![M, N]⟩ : Shape).size x)
    (r : Fin m) (k : Fin n) (i : Fin M) (j : Fin N) (hi : i.val = a + r.val) (hj : j.val = b + k.val) :
    View.ld X (Rect.unit (s := ⟨2, ![M, N]⟩) ![a, b] ![m, n] inb) (ix2 r k) = X (ix2 i j) := by
  refine View.ld_unit_apply_of _ _ _ _ _ _ fun x => ?_
  match x with
  | ⟨0, _⟩ => exact hi
  | ⟨1, _⟩ => exact hj

/-- The quantised pre-activation of row `R` of a block of `x` and hidden column `l` of a block of `w1`. -/
def qB (X : Fin 512 → Fin 3584 → BitVec 8) (x1 : Vec Ideal S3584x512 .i8) (x2 : Vec Ideal S3x512 .i32) (R l : Fin 512) : BitVec 32 :=
  qOf (X R) (fun k => x1 (ix2 k l)) (x2 (ix2 0 l)) (x2 (ix2 1 l)) (x2 (ix2 2 l))

section Blocks
variable (X : Fin 512 → Fin 3584 → BitVec 8) (x1 : Vec Ideal S3584x512 .i8) (x2 : Vec Ideal S3x512 .i32)
  (a0 a1 a2 b0 b1 b2 : Vec Ideal S256x1024 .bf16) (a3 b3 : Vec Ideal S256x512 .bf16)
  (ha0 : ∀ r k, a0 (ix2 r k) = ri (X (loRow r) (at0 k)).toInt) (ha1 : ∀ r k, a1 (ix2 r k) = ri (X (loRow r) (at1 k)).toInt)
  (ha2 : ∀ r k, a2 (ix2 r k) = ri (X (loRow r) (at2 k)).toInt) (ha3 : ∀ r k, a3 (ix2 r k) = ri (X (loRow r) (at3 k)).toInt)
  (hb0 : ∀ r k, b0 (ix2 r k) = ri (X (hiRow r) (at0 k)).toInt) (hb1 : ∀ r k, b1 (ix2 r k) = ri (X (hiRow r) (at1 k)).toInt)
  (hb2 : ∀ r k, b2 (ix2 r k) = ri (X (hiRow r) (at2 k)).toInt) (hb3 : ∀ r k, b3 (ix2 r k) = ri (X (hiRow r) (at3 k)).toInt)
  (R : Fin 512)
include ha0 ha1 ha2 ha3 hb0 hb1 hb2 hb3

/-- The block of stored pre-activations. -/
theorem block_q (l : Fin 512) : View.canon (Val := Elt Ideal) [(⟨Rect.unit ![256, 0] ![256, 512] inb_S512x512_S256x512_256_0, k0_pay122 (F := Ideal) (k0_pay100 (View.ld x2 (Rect.unit ![1, 0] ![1, 512] inb_S3x512_S1x512_1_0))) (k0_pay103 (View.ld x2 (Rect.unit ![2, 0] ![1, 512] inb_S3x512_S1x512_2_0))) (k0_pay104 (View.ld x2 (Rect.unit ![2, 0] ![1, 512] inb_S3x512_S1x512_2_0))) (k0_pay105 (View.ld x2 (Rect.unit ![2, 0] ![1, 512] inb_S3x512_S1x512_2_0))) (k0_pay106 (k0_pay101 (View.ld x2 (Rect.unit ![2, 0] ![1, 512] inb_S3x512_S1x512_2_0))) (k0_pay102 (View.ld x2 (Rect.unit ![2, 0] ![1, 512] inb_S3x512_S1x512_2_0)))) (k0_pay119 (k0_pay99 (View.ld x2 (Rect.unit ![0, 0] ![1, 512] inb_S3x512_S1x512_0_0))) (k0_pay107 (View.ld x1 (Rect.unit ![0, 0] ![3584, 512] inb_S3584x512_S3584x512_0_0))) b0 b1 b2 b3) (k0_pay120 (k0_pay103 (View.ld x2 (Rect.unit ![2, 0] ![1, 512] inb_S3x512_S1x512_2_0))))⟩ : View.Piece (Elt Ideal) S512x512 .i16),
      ⟨Rect.unit ![0, 0] ![256, 512] inb_S512x512_S256x512_0_0, k0_pay114 (F := Ideal) (k0_pay106 (k0_pay101 (View.ld x2 (Rect.unit ![2, 0] ![1, 512] inb_S3x512_S1x512_2_0))) (k0_pay102 (View.ld x2 (Rect.unit ![2, 0] ![1, 512] inb_S3x512_S1x512_2_0)))) (k0_pay110 (k0_pay99 (View.ld x2 (Rect.unit ![0, 0] ![1, 512] inb_S3x512_S1x512_0_0))) (k0_pay100 (View.ld x2 (Rect.unit ![1, 0] ![1, 512] inb_S3x512_S1x512_1_0))) (k0_pay103 (View.ld x2 (Rect.unit ![2, 0] ![1, 512] inb_S3x512_S1x512_2_0))) (View.ld x1 (Rect.unit ![0, 0] ![3584, 512] inb_S3584x512_S3584x512_0_0)) a0 a1 a2 a3) (k0_pay111 (k0_pay99 (View.ld x2 (Rect.unit ![0, 0] ![1, 512] inb_S3x512_S1x512_0_0))) (k0_pay100 (View.ld x2 (Rect.unit ![1, 0] ![1, 512] inb_S3x512_S1x512_1_0))) (k0_pay104 (View.ld x2 (Rect.unit ![2, 0] ![1, 512] inb_S3x512_S1x512_2_0))) (k0_pay105 (View.ld x2 (Rect.unit ![2, 0] ![1, 512] inb_S3x512_S1x512_2_0))) (View.ld x1 (Rect.unit ![0, 0] ![3584, 512] inb_S3584x512_S3584x512_0_0)) a0 a1 a2 a3) (k0_pay112 (k0_pay103 (View.ld x2 (Rect.unit ![2, 0] ![1, 512] inb_S3x512_S1x512_2_0))))⟩] (ix2 R l)
      = (qB X x1 x2 R l).truncate 16 := by
  refine canon_rows (e := .i16) _ _ _ _ _ (fun R l => (qB X x1 x2 R l).truncate 16) (fun r l => ?_) (fun r l => ?_) R l
  · refine (hi_q _ _ _ _ _ _ _ _ (fun r => X (hiRow r)) hb0 hb1 hb2 hb3 r l).trans ?_
    rw [View.ld_unit_zero (S := S3584x512) hz2]
    unfold qB
    congr 2 <;> exact ld_at (e := .i32) _ _ _ _ _ _ _ _ rfl (Nat.zero_add _).symm
  · refine (lo_q _ _ _ _ _ _ _ _ (fun r => X (loRow r)) ha0 ha1 ha2 ha3 r l).trans ?_
    rw [View.ld_unit_zero (S := S3584x512) hz2]
    unfold qB
    congr 2 <;> exact ld_at (e := .i32) _ _ _ _ _ _ _ _ rfl (Nat.zero_add _).symm

/-- The block of stored activations. -/
theorem block_h (l : Fin 512) : View.canon (Val := Elt Ideal) [(⟨Rect.unit ![256, 0] ![256, 512] inb_S512x512_S256x512_256_0, k0_pay2 (F := Ideal) (k0_pay123 (k0_pay100 (View.ld x2 (Rect.unit ![1, 0] ![1, 512] inb_S3x512_S1x512_1_0))) (k0_pay103 (View.ld x2 (Rect.unit ![2, 0] ![1, 512] inb_S3x512_S1x512_2_0))) (k0_pay104 (View.ld x2 (Rect.unit ![2, 0] ![1, 512] inb_S3x512_S1x512_2_0))) (k0_pay105 (View.ld x2 (Rect.unit ![2, 0] ![1, 512] inb_S3x512_S1x512_2_0))) (k0_pay106 (k0_pay101 (View.ld x2 (Rect.unit ![2, 0] ![1, 512] inb_S3x512_S1x512_2_0))) (k0_pay102 (View.ld x2 (Rect.unit ![2, 0] ![1, 512] inb_S3x512_S1x512_2_0)))) (k0_pay119 (k0_pay99 (View.ld x2 (Rect.unit ![0, 0] ![1, 512] inb_S3x512_S1x512_0_0))) (k0_pay107 (View.ld x1 (Rect.unit ![0, 0] ![3584, 512] inb_S3584x512_S3584x512_0_0))) b0 b1 b2 b3) (k0_pay120 (k0_pay103 (View.ld x2 (Rect.unit ![2, 0] ![1, 512] inb_S3x512_S1x512_2_0)))))⟩ : View.Piece (Elt Ideal) S512x512 .i8),
      ⟨Rect.unit ![0, 0] ![256, 512] inb_S512x512_S256x512_0_0, k0_pay117 (F := Ideal) (k0_pay116 (k0_pay106 (k0_pay101 (View.ld x2 (Rect.unit ![2, 0] ![1, 512] inb_S3x512_S1x512_2_0))) (k0_pay102 (View.ld x2 (Rect.unit ![2, 0] ![1, 512] inb_S3x512_S1x512_2_0)))) (k0_pay110 (k0_pay99 (View.ld x2 (Rect.unit ![0, 0] ![1, 512] inb_S3x512_S1x512_0_0))) (k0_pay100 (View.ld x2 (Rect.unit ![1, 0] ![1, 512] inb_S3x512_S1x512_1_0))) (k0_pay103 (View.ld x2 (Rect.unit ![2, 0] ![1, 512] inb_S3x512_S1x512_2_0))) (View.ld x1 (Rect.unit ![0, 0] ![3584, 512] inb_S3584x512_S3584x512_0_0)) a0 a1 a2 a3) (k0_pay111 (k0_pay99 (View.ld x2 (Rect.unit ![0, 0] ![1, 512] inb_S3x512_S1x512_0_0))) (k0_pay100 (View.ld x2 (Rect.unit ![1, 0] ![1, 512] inb_S3x512_S1x512_1_0))) (k0_pay104 (View.ld x2 (Rect.unit ![2, 0] ![1, 512] inb_S3x512_S1x512_2_0))) (k0_pay105 (View.ld x2 (Rect.unit ![2, 0] ![1, 512] inb_S3x512_S1x512_2_0))) (View.ld x1 (Rect.unit ![0, 0] ![3584, 512] inb_S3584x512_S3584x512_0_0)) a0 a1 a2 a3) (k0_pay112 (k0_pay103 (View.ld x2 (Rect.unit ![2, 0] ![1, 512] inb_S3x512_S1x512_2_0)))))⟩] (ix2 R l)
      = (hWide (qB X x1 x2 R l)).truncate 8 := by
  refine canon_rows (e := .i8) _ _ _ _ _ (fun R l => (hWide (qB X x1 x2 R l)).truncate 8) (fun r l => ?_) (fun r l => ?_) R l
  · refine (hi_h _ _ _ _ _ _ _ _ (fun r => X (hiRow r)) hb0 hb1 hb2 hb3 r l).trans ?_
    rw [View.ld_unit_zero (S := S3584x512) hz2]
    unfold qB
    congr 3 <;> exact ld_at (e := .i32) _ _ _ _ _ _ _ _ rfl (Nat.zero_add _).symm
  · refine (lo_h _ _ _ _ _ _ _ _ (fun r => X (loRow r)) ha0 ha1 ha2 ha3 r l).trans ?_
    rw [View.ld_unit_zero (S := S3584x512) hz2]
    unfold qB
    congr 3 <;> exact ld_at (e := .i32) _ _ _ _ _ _ _ _ rfl (Nat.zero_add _).symm

/-- The block's step of the second product, from what the accumulator held in each half. -/
theorem block_acc (x3 : Vec Ideal S512x3584 .i8) (c1 c0 : Vec Ideal S256x3584 .i32) (C : Fin 512 → Fin 3584 → BitVec 32)
    (hc1 : ∀ r j, c1 (ix2 r j) = C (hiRow r) j) (hc0 : ∀ r j, c0 (ix2 r j) = C (loRow r) j)
    (L : List (View.Piece (Elt Ideal) S512x3584 .i32)) (j : Fin 3584) :
    View.canon (Val := Elt Ideal) ((⟨Rect.unit ![256, 0] ![256, 3584] inb_S512x3584_S256x3584_256_0, k0_pay3 (F := Ideal) (k0_pay108 (View.ld x3 (Rect.unit ![0, 0] ![512, 3584] inb_S512x3584_S512x3584_0_0))) (k0_pay123 (k0_pay100 (View.ld x2 (Rect.unit ![1, 0] ![1, 512] inb_S3x512_S1x512_1_0))) (k0_pay103 (View.ld x2 (Rect.unit ![2, 0] ![1, 512] inb_S3x512_S1x512_2_0))) (k0_pay104 (View.ld x2 (Rect.unit ![2, 0] ![1, 512] inb_S3x512_S1x512_2_0))) (k0_pay105 (View.ld x2 (Rect.unit ![2, 0] ![1, 512] inb_S3x512_S1x512_2_0))) (k0_pay106 (k0_pay101 (View.ld x2 (Rect.unit ![2, 0] ![1, 512] inb_S3x512_S1x512_2_0))) (k0_pay102 (View.ld x2 (Rect.unit ![2, 0] ![1, 512] inb_S3x512_S1x512_2_0)))) (k0_pay119 (k0_pay99 (View.ld x2 (Rect.unit ![0, 0] ![1, 512] inb_S3x512_S1x512_0_0))) (k0_pay107 (View.ld x1 (Rect.unit ![0, 0] ![3584, 512] inb_S3584x512_S3584x512_0_0))) b0 b1 b2 b3) (k0_pay120 (k0_pay103 (View.ld x2 (Rect.unit ![2, 0] ![1, 512] inb_S3x512_S1x512_2_0))))) c1⟩ : View.Piece (Elt Ideal) S512x3584 .i32) ::
      ⟨Rect.unit ![0, 0] ![256, 3584] inb_S512x3584_S256x3584_0_0, k0_pay118 (F := Ideal) (k0_pay108 (View.ld x3 (Rect.unit ![0, 0] ![512, 3584] inb_S512x3584_S512x3584_0_0))) (k0_pay115 (k0_pay106 (k0_pay101 (View.ld x2 (Rect.unit ![2, 0] ![1, 512] inb_S3x512_S1x512_2_0))) (k0_pay102 (View.ld x2 (Rect.unit ![2, 0] ![1, 512] inb_S3x512_S1x512_2_0)))) (k0_pay110 (k0_pay99 (View.ld x2 (Rect.unit ![0, 0] ![1, 512] inb_S3x512_S1x512_0_0))) (k0_pay100 (View.ld x2 (Rect.unit ![1, 0] ![1, 512] inb_S3x512_S1x512_1_0))) (k0_pay103 (View.ld x2 (Rect.unit ![2, 0] ![1, 512] inb_S3x512_S1x512_2_0))) (View.ld x1 (Rect.unit ![0, 0] ![3584, 512] inb_S3584x512_S3584x512_0_0)) a0 a1 a2 a3) (k0_pay111 (k0_pay99 (View.ld x2 (Rect.unit ![0, 0] ![1, 512] inb_S3x512_S1x512_0_0))) (k0_pay100 (View.ld x2 (Rect.unit ![1, 0] ![1, 512] inb_S3x512_S1x512_1_0))) (k0_pay104 (View.ld x2 (Rect.unit ![2, 0] ![1, 512] inb_S3x512_S1x512_2_0))) (k0_pay105 (View.ld x2 (Rect.unit ![2, 0] ![1, 512] inb_S3x512_S1x512_2_0))) (View.ld x1 (Rect.unit ![0, 0] ![3584, 512] inb_S3584x512_S3584x512_0_0)) a0 a1 a2 a3) (k0_pay112 (k0_pay103 (View.ld x2 (Rect.unit ![2, 0] ![1, 512] inb_S3x512_S1x512_2_0))))) c0⟩ :: L) (ix2 R j)
      = C R j + stepOf (qB X x1 x2 R) (fun l => x3 (ix2 l j)) := by
  refine canon_rows (e := .i32) _ _ _ _ _ (fun R j => C R j + stepOf (qB X x1 x2 R) (fun l => x3 (ix2 l j))) (fun r l => ?_) (fun r l => ?_) R j
  · refine (hi_acc _ _ _ _ _ _ _ _ (fun r => X (hiRow r)) hb0 hb1 hb2 hb3 _ _ r l).trans ?_
    rw [View.ld_unit_zero (S := S3584x512) hz2, View.ld_unit_zero (S := S512x3584) hz2, hc1]
    refine congrArg (C _ l + ·) (congrArg (stepOf · _) (funext fun l => ?_))
    unfold qB
    congr 1 <;> exact ld_at (e := .i32) _ _ _ _ _ _ _ _ rfl (Nat.zero_add _).symm
  · refine (lo_acc _ _ _ _ _ _ _ _ (fun r => X (loRow r)) ha0 ha1 ha2 ha3 _ _ r l).trans ?_
    rw [View.ld_unit_zero (S := S3584x512) hz2, View.ld_unit_zero (S := S512x3584) hz2, hc0]
    refine congrArg (C _ l + ·) (congrArg (stepOf · _) (funext fun l => ?_))
    unfold qB
    congr 1 <;> exact ld_at (e := .i32) _ _ _ _ _ _ _ _ rfl (Nat.zero_add _).symm
end Blocks
end Cert.Proof
-- ==== Proof.Cases.lean ====
module
public import proofs.«01_k».proof.Proof.Block
@[expose] public section
set_option maxRecDepth 16384
set_option maxHeartbeats 1000000
noncomputable section
namespace Cert.Proof
open Idealize.ShloMosaic Idealize.ShloMosaic.TcCoe Idealize.SL.Sem Idealize.ShloMosaic.Tactic
open Cert.KernelIdeal Cert.KernelIdeal.Gen

/-- Each of the two zero offsets is zero. -/
theorem hz2' : ∀ a, (![0, 0] : Fin 2 → Nat) a = 0 := fun a => by fin_cases a <;> rfl

/-- The stored block of `x`, converted. -/
theorem pay97_at (X : Vec Ideal S512x3584 .i8) (R : Fin 512) (k : Fin 3584) : k0_pay97 (F := Ideal) X (ix2 R k) = ri (X (ix2 R k)).toInt := by
  pointwise [k0_pay97]
  rfl
/-- The accumulator's first value: the second bias on every row. -/
theorem pay98_at (v : Vec Ideal S1x3584 .i32) (R : Fin 512) (j : Fin 3584) : k0_pay98 (F := Ideal) v (ix2 R j) = v (ix2 0 j) := by
  pointwise [k0_pay98]

variable (c : Dev nD) (i : grid0.Coords) (arg2 : Memref sig .tc .vmem S512x3584 .i8) (harg2 : arg2.IsWhole) (arg3 : Memref sig .tc .vmem S3584x512 .i8) (harg3 : arg3.IsWhole) (arg4 : Memref sig .tc .vmem S3x512 .i32) (harg4 : arg4.IsWhole) (arg5 : Memref sig .tc .vmem S512x3584 .i8) (harg5 : arg5.IsWhole) (arg6 : Memref sig .tc .vmem S6x3584 .i32) (harg6 : arg6.IsWhole) (arg7 : Memref sig .tc .vmem S512x3584 .i8) (harg7 : arg7.IsWhole) (arg8 : Memref sig .tc .vmem S512x512 .i16) (harg8 : arg8.IsWhole) (arg9 : Memref sig .tc .vmem S512x512 .i8) (harg9 : arg9.IsWhole) (arg10 : Memref sig .tc .vmem S512x3584 .bf16) (harg10 : arg10.IsWhole) (arg11 : Memref sig .tc .vmem S512x3584 .i32) (harg11 : arg11.IsWhole)
    (x0 : Vec Ideal S512x3584 .i8) (x1 : Vec Ideal S3584x512 .i8) (x2 : Vec Ideal S3x512 .i32) (x3 : Vec Ideal S512x3584 .i8) (x4 : Vec Ideal S6x3584 .i32)

/-- A rectangle loaded from the converted block of `x` holds the codes of `x` at the shifted index. -/
theorem ldbf (xb : Vec Ideal S512x3584 .bf16) (X : Fin 512 → Fin 3584 → BitVec 8) (hX : ∀ R k, xb (ix2 R k) = ri (X R k).toInt) {m n : Nat} (a b : Nat)
    (inb : ∀ x : Fin 2, (![a, b] : Fin 2 → Nat) x + (![m, n] : Fin 2 → Nat) x ≤ S512x3584.size x) (r : Fin m) (k : Fin n) (i : Fin 512) (j : Fin 3584)
    (hi : i.val = a + r.val) (hj : j.val = b + k.val) :
    View.ld (Val := Elt Ideal) (e' := .bf16) xb (Rect.unit (s := S512x3584) ![a, b] ![m, n] inb) (ix2 r k) = ri (X i j).toInt :=
  (ld_at (e := .bf16) xb a b inb r k i j hi hj).trans (hX i j)

/-- The pre-activations a first point of a row of blocks stores. -/
theorem out_A_6 (hc0 : cond0_0 i) (hc1 : ¬cond0_1 i) (R : Fin 512) (j : Fin 512) :
    out0_A_6 c i arg2 harg2 arg3 harg3 arg4 harg4 arg5 harg5 arg6 harg6 arg7 harg7 arg8 harg8 arg9 harg9 arg10 harg10 arg11 harg11 hc0 hc1 x0 x1 x2 x3 x4 (ix2 R j)
      = (qB (fun R k => x0 (ix2 R k)) x1 x2 R j).truncate 16 := by
  have hX : ∀ R k, k0_pay97 (F := Ideal) x0 (ix2 R k) = ri ((fun R k => x0 (ix2 R k)) R k).toInt := fun R k => pay97_at x0 R k
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp only [View.readAt_eq_ld, harg2.read_unread, harg3.read_unread, harg4.read_unread, harg5.read_unread, harg6.read_unread, harg10.read_unread, harg11.read_unread]
  simp only [View.readCov_fill (s := S512x3584) (off := ![0, 0]) _ _ _ _ _ hz2', View.ld_unit_zero (S := S512x3584) (X := x0) hz2]
  exact block_q (fun R k => x0 (ix2 R k)) x1 x2 _ _ _ _ _ _ _ _ (fun r k => ldbf _ (fun R k => x0 (ix2 R k)) hX _ _ _ r k _ _ (Nat.zero_add _).symm (Nat.zero_add _).symm) (fun r k => ldbf _ (fun R k => x0 (ix2 R k)) hX _ _ _ r k _ _ (Nat.zero_add _).symm rfl) (fun r k => ldbf _ (fun R k => x0 (ix2 R k)) hX _ _ _ r k _ _ (Nat.zero_add _).symm rfl) (fun r k => ldbf _ (fun R k => x0 (ix2 R k)) hX _ _ _ r k _ _ (Nat.zero_add _).symm rfl) (fun r k => ldbf _ (fun R k => x0 (ix2 R k)) hX _ _ _ r k _ _ rfl (Nat.zero_add _).symm) (fun r k => ldbf _ (fun R k => x0 (ix2 R k)) hX _ _ _ r k _ _ rfl rfl) (fun r k => ldbf _ (fun R k => x0 (ix2 R k)) hX _ _ _ r k _ _ rfl rfl) (fun r k => ldbf _ (fun R k => x0 (ix2 R k)) hX _ _ _ r k _ _ rfl rfl) R j

/-- The activations a first point of a row of blocks stores. -/
theorem out_A_7 (hc0 : cond0_0 i) (hc1 : ¬cond0_1 i) (R : Fin 512) (j : Fin 512) :
    out0_A_7 c i arg2 harg2 arg3 harg3 arg4 harg4 arg5 harg5 arg6 harg6 arg7 harg7 arg8 harg8 arg9 harg9 arg10 harg10 arg11 harg11 hc0 hc1 x0 x1 x2 x3 x4 (ix2 R j)
      = (hWide (qB (fun R k => x0 (ix2 R k)) x1 x2 R j)).truncate 8 := by
  have hX : ∀ R k, k0_pay97 (F := Ideal) x0 (ix2 R k) = ri ((fun R k => x0 (ix2 R k)) R k).toInt := fun R k => pay97_at x0 R k
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp only [View.readAt_eq_ld, harg2.read_unread, harg3.read_unread, harg4.read_unread, harg5.read_unread, harg6.read_unread, harg10.read_unread, harg11.read_unread]
  simp only [View.readCov_fill (s := S512x3584) (off := ![0, 0]) _ _ _ _ _ hz2', View.ld_unit_zero (S := S512x3584) (X := x0) hz2]
  exact block_h (fun R k => x0 (ix2 R k)) x1 x2 _ _ _ _ _ _ _ _ (fun r k => ldbf _ (fun R k => x0 (ix2 R k)) hX _ _ _ r k _ _ (Nat.zero_add _).symm (Nat.zero_add _).symm) (fun r k => ldbf _ (fun R k => x0 (ix2 R k)) hX _ _ _ r k _ _ (Nat.zero_add _).symm rfl) (fun r k => ldbf _ (fun R k => x0 (ix2 R k)) hX _ _ _ r k _ _ (Nat.zero_add _).symm rfl) (fun r k => ldbf _ (fun R k => x0 (ix2 R k)) hX _ _ _ r k _ _ (Nat.zero_add _).symm rfl) (fun r k => ldbf _ (fun R k => x0 (ix2 R k)) hX _ _ _ r k _ _ rfl (Nat.zero_add _).symm) (fun r k => ldbf _ (fun R k => x0 (ix2 R k)) hX _ _ _ r k _ _ rfl rfl) (fun r k => ldbf _ (fun R k => x0 (ix2 R k)) hX _ _ _ r k _ _ rfl rfl) (fun r k => ldbf _ (fun R k => x0 (ix2 R k)) hX _ _ _ r k _ _ rfl rfl) R j

/-- The accumulator after a first point. -/
theorem sout_A_1 (hc0 : cond0_0 i) (hc1 : ¬cond0_1 i) (R : Fin 512) (j : Fin 3584) :
    sout0_A_1 c i arg2 harg2 arg3 harg3 arg4 harg4 arg5 harg5 arg6 harg6 arg7 harg7 arg8 harg8 arg9 harg9 arg10 harg10 arg11 harg11 hc0 hc1 x0 x1 x2 x3 x4 (ix2 R j)
      = x4 (ix2 0 j) + stepOf (qB (fun R k => x0 (ix2 R k)) x1 x2 R) (fun l => x3 (ix2 l j)) := by
  have hX : ∀ R k, k0_pay97 (F := Ideal) x0 (ix2 R k) = ri ((fun R k => x0 (ix2 R k)) R k).toInt := fun R k => pay97_at x0 R k
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp only [View.readAt_eq_ld, harg2.read_unread, harg3.read_unread, harg4.read_unread, harg5.read_unread, harg6.read_unread, harg10.read_unread, harg11.read_unread]
  simp only [View.readCov_fill (s := S512x3584) (off := ![0, 0]) _ _ _ _ _ hz2', View.ld_unit_zero (S := S512x3584) (X := x0) hz2]
  refine block_acc (fun R k => x0 (ix2 R k)) x1 x2 _ _ _ _ _ _ _ _ (fun r k => ldbf _ (fun R k => x0 (ix2 R k)) hX _ _ _ r k _ _ (Nat.zero_add _).symm (Nat.zero_add _).symm) (fun r k => ldbf _ (fun R k => x0 (ix2 R k)) hX _ _ _ r k _ _ (Nat.zero_add _).symm rfl) (fun r k => ldbf _ (fun R k => x0 (ix2 R k)) hX _ _ _ r k _ _ (Nat.zero_add _).symm rfl) (fun r k => ldbf _ (fun R k => x0 (ix2 R k)) hX _ _ _ r k _ _ (Nat.zero_add _).symm rfl) (fun r k => ldbf _ (fun R k => x0 (ix2 R k)) hX _ _ _ r k _ _ rfl (Nat.zero_add _).symm) (fun r k => ldbf _ (fun R k => x0 (ix2 R k)) hX _ _ _ r k _ _ rfl rfl) (fun r k => ldbf _ (fun R k => x0 (ix2 R k)) hX _ _ _ r k _ _ rfl rfl) (fun r k => ldbf _ (fun R k => x0 (ix2 R k)) hX _ _ _ r k _ _ rfl rfl) R x3 _ _ (fun R j => x4 (ix2 0 j)) (fun r j => ?_) (fun r j => ?_) _ j
  · rw [View.readCov_eq_canon']
    refine (ld_at (e := .i32) _ 256 0 _ r j (hiRow r) j rfl (Nat.zero_add _).symm).trans ?_
    refine (canon_lo_off (e := .i32) _ _ _ r j).trans ?_
    rw [View.canon_unit_zero (S := S512x3584) hz2, pay98_at]
    exact ld_at (e := .i32) _ _ _ _ _ _ _ _ rfl (Nat.zero_add _).symm
  · refine (ld_at (e := .i32) _ 0 0 _ r j (loRow r) j (Nat.zero_add _).symm (Nat.zero_add _).symm).trans ?_
    rw [pay98_at]
    exact ld_at (e := .i32) _ _ _ _ _ _ _ _ rfl (Nat.zero_add _).symm

/-- The converted block of `x` after a first point. -/
theorem sout_A_0 (hc0 : cond0_0 i) (hc1 : ¬cond0_1 i) (R : Fin 512) (j : Fin 3584) : sout0_A_0 c i arg2 harg2 arg3 harg3 arg4 harg4 arg5 harg5 arg6 harg6 arg7 harg7 arg8 harg8 arg9 harg9 arg10 harg10 arg11 harg11 hc0 hc1 x0 x1 x2 x3 x4 (ix2 R j) = ri (x0 (ix2 R j)).toInt := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp only [View.readAt_eq_ld, harg2.read_unread, harg3.read_unread, harg4.read_unread, harg5.read_unread, harg6.read_unread, harg10.read_unread, harg11.read_unread]
  rw [View.canon_unit_zero (S := S512x3584) hz2, View.ld_unit_zero (S := S512x3584) hz2]
  exact pay97_at x0 R j

/-- The pre-activations a middle point of a row of blocks stores. -/
theorem out_B_6 (hc0 : ¬cond0_0 i) (hc1 : ¬cond0_1 i) (xs0 : Vec Ideal S512x3584 .bf16) (xs1 : Vec Ideal S512x3584 .i32) (X : Fin 512 → Fin 3584 → BitVec 8) (hX : ∀ R k, xs0 (ix2 R k) = ri (X R k).toInt) (R : Fin 512) (j : Fin 512) :
    out0_B_6 c i arg2 harg2 arg3 harg3 arg4 harg4 arg5 harg5 arg6 harg6 arg7 harg7 arg8 harg8 arg9 harg9 arg10 harg10 arg11 harg11 hc0 hc1 x0 x1 x2 x3 x4 xs0 xs1 (ix2 R j)
      = (qB X x1 x2 R j).truncate 16 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun0_B
  dsimp only
  sl_unfold_words
  simp only [View.readAt_eq_ld, harg3.read_unread, harg4.read_unread, harg5.read_unread, harg6.read_unread, harg10.read_unread, harg11.read_unread]
  exact block_q X x1 x2 _ _ _ _ _ _ _ _ (fun r k => ldbf _ X hX _ _ _ r k _ _ (Nat.zero_add _).symm (Nat.zero_add _).symm) (fun r k => ldbf _ X hX _ _ _ r k _ _ (Nat.zero_add _).symm rfl) (fun r k => ldbf _ X hX _ _ _ r k _ _ (Nat.zero_add _).symm rfl) (fun r k => ldbf _ X hX _ _ _ r k _ _ (Nat.zero_add _).symm rfl) (fun r k => ldbf _ X hX _ _ _ r k _ _ rfl (Nat.zero_add _).symm) (fun r k => ldbf _ X hX _ _ _ r k _ _ rfl rfl) (fun r k => ldbf _ X hX _ _ _ r k _ _ rfl rfl) (fun r k => ldbf _ X hX _ _ _ r k _ _ rfl rfl) R j

/-- The activations a middle point of a row of blocks stores. -/
theorem out_B_7 (hc0 : ¬cond0_0 i) (hc1 : ¬cond0_1 i) (xs0 : Vec Ideal S512x3584 .bf16) (xs1 : Vec Ideal S512x3584 .i32) (X : Fin 512 → Fin 3584 → BitVec 8) (hX : ∀ R k, xs0 (ix2 R k) = ri (X R k).toInt) (R : Fin 512) (j : Fin 512) :
    out0_B_7 c i arg2 harg2 arg3 harg3 arg4 harg4 arg5 harg5 arg6 harg6 arg7 harg7 arg8 harg8 arg9 harg9 arg10 harg10 arg11 harg11 hc0 hc1 x0 x1 x2 x3 x4 xs0 xs1 (ix2 R j)
      = (hWide (qB X x1 x2 R j)).truncate 8 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun0_B
  dsimp only
  sl_unfold_words
  simp only [View.readAt_eq_ld, harg3.read_unread, harg4.read_unread, harg5.read_unread, harg6.read_unread, harg10.read_unread, harg11.read_unread]
  exact block_h X x1 x2 _ _ _ _ _ _ _ _ (fun r k => ldbf _ X hX _ _ _ r k _ _ (Nat.zero_add _).symm (Nat.zero_add _).symm) (fun r k => ldbf _ X hX _ _ _ r k _ _ (Nat.zero_add _).symm rfl) (fun r k => ldbf _ X hX _ _ _ r k _ _ (Nat.zero_add _).symm rfl) (fun r k => ldbf _ X hX _ _ _ r k _ _ (Nat.zero_add _).symm rfl) (fun r k => ldbf _ X hX _ _ _ r k _ _ rfl (Nat.zero_add _).symm) (fun r k => ldbf _ X hX _ _ _ r k _ _ rfl rfl) (fun r k => ldbf _ X hX _ _ _ r k _ _ rfl rfl) (fun r k => ldbf _ X hX _ _ _ r k _ _ rfl rfl) R j

/-- The accumulator after a middle point. -/
theorem sout_B_1 (hc0 : ¬cond0_0 i) (hc1 : ¬cond0_1 i) (xs0 : Vec Ideal S512x3584 .bf16) (xs1 : Vec Ideal S512x3584 .i32) (X : Fin 512 → Fin 3584 → BitVec 8) (hX : ∀ R k, xs0 (ix2 R k) = ri (X R k).toInt) (R : Fin 512) (j : Fin 3584) :
    sout0_B_1 c i arg2 harg2 arg3 harg3 arg4 harg4 arg5 harg5 arg6 harg6 arg7 harg7 arg8 harg8 arg9 harg9 arg10 harg10 arg11 harg11 hc0 hc1 x0 x1 x2 x3 x4 xs0 xs1 (ix2 R j)
      = xs1 (ix2 R j) + stepOf (qB X x1 x2 R) (fun l => x3 (ix2 l j)) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun0_B
  dsimp only
  sl_unfold_words
  simp only [View.readAt_eq_ld, harg3.read_unread, harg4.read_unread, harg5.read_unread, harg6.read_unread, harg10.read_unread, harg11.read_unread]
  exact block_acc X x1 x2 _ _ _ _ _ _ _ _ (fun r k => ldbf _ X hX _ _ _ r k _ _ (Nat.zero_add _).symm (Nat.zero_add _).symm) (fun r k => ldbf _ X hX _ _ _ r k _ _ (Nat.zero_add _).symm rfl) (fun r k => ldbf _ X hX _ _ _ r k _ _ (Nat.zero_add _).symm rfl) (fun r k => ldbf _ X hX _ _ _ r k _ _ (Nat.zero_add _).symm rfl) (fun r k => ldbf _ X hX _ _ _ r k _ _ rfl (Nat.zero_add _).symm) (fun r k => ldbf _ X hX _ _ _ r k _ _ rfl rfl) (fun r k => ldbf _ X hX _ _ _ r k _ _ rfl rfl) (fun r k => ldbf _ X hX _ _ _ r k _ _ rfl rfl) R x3 _ _ (fun R j => xs1 (ix2 R j))
    (fun r j => ld_at (e := .i32) _ _ _ _ _ _ _ _ rfl (Nat.zero_add _).symm) (fun r j => ld_at (e := .i32) _ _ _ _ _ _ _ _ (Nat.zero_add _).symm (Nat.zero_add _).symm) [] j

/-- The pre-activations a last point of a row of blocks stores. -/
theorem out_C_6 (hc0 : ¬cond0_0 i) (hc1 : cond0_1 i) (xs0 : Vec Ideal S512x3584 .bf16) (xs1 : Vec Ideal S512x3584 .i32) (X : Fin 512 → Fin 3584 → BitVec 8) (hX : ∀ R k, xs0 (ix2 R k) = ri (X R k).toInt) (R : Fin 512) (j : Fin 512) :
    out0_C_6 c i arg2 harg2 arg3 harg3 arg4 harg4 arg5 harg5 arg6 harg6 arg7 harg7 arg8 harg8 arg9 harg9 arg10 harg10 arg11 harg11 hc0 hc1 x0 x1 x2 x3 x4 xs0 xs1 (ix2 R j)
      = (qB X x1 x2 R j).truncate 16 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  simp only [View.readAt_eq_ld, harg3.read_unread, harg4.read_unread, harg5.read_unread, harg6.read_unread, harg10.read_unread, harg11.read_unread]
  exact block_q X x1 x2 _ _ _ _ _ _ _ _ (fun r k => ldbf _ X hX _ _ _ r k _ _ (Nat.zero_add _).symm (Nat.zero_add _).symm) (fun r k => ldbf _ X hX _ _ _ r k _ _ (Nat.zero_add _).symm rfl) (fun r k => ldbf _ X hX _ _ _ r k _ _ (Nat.zero_add _).symm rfl) (fun r k => ldbf _ X hX _ _ _ r k _ _ (Nat.zero_add _).symm rfl) (fun r k => ldbf _ X hX _ _ _ r k _ _ rfl (Nat.zero_add _).symm) (fun r k => ldbf _ X hX _ _ _ r k _ _ rfl rfl) (fun r k => ldbf _ X hX _ _ _ r k _ _ rfl rfl) (fun r k => ldbf _ X hX _ _ _ r k _ _ rfl rfl) R j

/-- The activations a last point of a row of blocks stores. -/
theorem out_C_7 (hc0 : ¬cond0_0 i) (hc1 : cond0_1 i) (xs0 : Vec Ideal S512x3584 .bf16) (xs1 : Vec Ideal S512x3584 .i32) (X : Fin 512 → Fin 3584 → BitVec 8) (hX : ∀ R k, xs0 (ix2 R k) = ri (X R k).toInt) (R : Fin 512) (j : Fin 512) :
    out0_C_7 c i arg2 harg2 arg3 harg3 arg4 harg4 arg5 harg5 arg6 harg6 arg7 harg7 arg8 harg8 arg9 harg9 arg10 harg10 arg11 harg11 hc0 hc1 x0 x1 x2 x3 x4 xs0 xs1 (ix2 R j)
      = (hWide (qB X x1 x2 R j)).truncate 8 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  simp only [View.readAt_eq_ld, harg3.read_unread, harg4.read_unread, harg5.read_unread, harg6.read_unread, harg10.read_unread, harg11.read_unread]
  exact block_h X x1 x2 _ _ _ _ _ _ _ _ (fun r k => ldbf _ X hX _ _ _ r k _ _ (Nat.zero_add _).symm (Nat.zero_add _).symm) (fun r k => ldbf _ X hX _ _ _ r k _ _ (Nat.zero_add _).symm rfl) (fun r k => ldbf _ X hX _ _ _ r k _ _ (Nat.zero_add _).symm rfl) (fun r k => ldbf _ X hX _ _ _ r k _ _ (Nat.zero_add _).symm rfl) (fun r k => ldbf _ X hX _ _ _ r k _ _ rfl (Nat.zero_add _).symm) (fun r k => ldbf _ X hX _ _ _ r k _ _ rfl rfl) (fun r k => ldbf _ X hX _ _ _ r k _ _ rfl rfl) (fun r k => ldbf _ X hX _ _ _ r k _ _ rfl rfl) R j

end Cert.Proof
-- ==== Proof.CaseLast.lean ====
module
public import proofs.«01_k».proof.Proof.Cases
@[expose] public section
set_option maxRecDepth 16384
set_option maxHeartbeats 1000000
noncomputable section
namespace Cert.Proof
open Idealize.ShloMosaic Idealize.ShloMosaic.TcCoe Idealize.SL.Sem Idealize.ShloMosaic.Tactic
open Cert.KernelIdeal Cert.KernelIdeal.Gen

variable (c : Dev nD) (i : grid0.Coords) (arg2 : Memref sig .tc .vmem S512x3584 .i8) (harg2 : arg2.IsWhole) (arg3 : Memref sig .tc .vmem S3584x512 .i8) (harg3 : arg3.IsWhole) (arg4 : Memref sig .tc .vmem S3x512 .i32) (harg4 : arg4.IsWhole) (arg5 : Memref sig .tc .vmem S512x3584 .i8) (harg5 : arg5.IsWhole) (arg6 : Memref sig .tc .vmem S6x3584 .i32) (harg6 : arg6.IsWhole) (arg7 : Memref sig .tc .vmem S512x3584 .i8) (harg7 : arg7.IsWhole) (arg8 : Memref sig .tc .vmem S512x512 .i16) (harg8 : arg8.IsWhole) (arg9 : Memref sig .tc .vmem S512x512 .i8) (harg9 : arg9.IsWhole) (arg10 : Memref sig .tc .vmem S512x3584 .bf16) (harg10 : arg10.IsWhole) (arg11 : Memref sig .tc .vmem S512x3584 .i32) (harg11 : arg11.IsWhole)
    (x0 : Vec Ideal S512x3584 .i8) (x1 : Vec Ideal S3584x512 .i8) (x2 : Vec Ideal S3x512 .i32) (x3 : Vec Ideal S512x3584 .i8) (x4 : Vec Ideal S6x3584 .i32) (xs0 : Vec Ideal S512x3584 .bf16) (xs1 : Vec Ideal S512x3584 .i32)

/-- Widening a byte with its sign and cutting it back gives the byte. -/
theorem trunc_sext (x : BitVec 8) : (x.signExtend 32).truncate 8 = x := by revert x; decide

/-- The normalized block a last point stores. -/
theorem out_C_5 (hc0 : ¬cond0_0 i) (hc1 : cond0_1 i) (X : Fin 512 → Fin 3584 → BitVec 8) (hX : ∀ R k, xs0 (ix2 R k) = ri (X R k).toInt) (R : Fin 512) (j : Fin 3584) :
    out0_C_5 c i arg2 harg2 arg3 harg3 arg4 harg4 arg5 harg5 arg6 harg6 arg7 harg7 arg8 harg8 arg9 harg9 arg10 harg10 arg11 harg11 hc0 hc1 x0 x1 x2 x3 x4 xs0 xs1 (ix2 R j)
      = lnOut (fun j => IntOp.addi (rq (xs1 (ix2 R j) + stepOf (qB X x1 x2 R) (fun l => x3 (ix2 l j))) (x4 (ix2 1 j)) (x4 (ix2 2 j)))
          (IntOp.shli .host ((X R j).signExtend 32) 4#32)) (x4 (ix2 3 j)) (x4 (ix2 4 j)) (x4 (ix2 5 j)) j := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  simp only [View.readAt_eq_ld, harg3.read_unread, harg4.read_unread, harg5.read_unread, harg6.read_unread, harg10.read_unread, harg11.read_unread]
  rw [View.canon_unit_zero (S := S512x3584) hz2, View.ld_unit_zero (S := S512x3584) hz2 _ (View.read _ _ _), View.writes_append]
  have ht : k0_t1_loop.trips = 32 := by decide +kernel
  have key := fun G hG => loop_at c i arg2 harg2 arg3 harg3 arg4 harg4 arg5 harg5 arg6 harg6 arg7 harg7 arg8 harg8 arg9 harg9 arg10 harg10 arg11 harg11
    (View.ld x4 (Rect.unit ![1, 0] ![1, 3584] inb_S6x3584_S1x3584_1_0)) (View.ld x4 (Rect.unit ![2, 0] ![1, 3584] inb_S6x3584_S1x3584_2_0))
    (View.ld x4 (Rect.unit ![3, 0] ![1, 3584] inb_S6x3584_S1x3584_3_0)) (View.ld x4 (Rect.unit ![4, 0] ![1, 3584] inb_S6x3584_S1x3584_4_0))
    (View.ld x4 (Rect.unit ![5, 0] ![1, 3584] inb_S6x3584_S1x3584_5_0)) hc1 xs0 X hX G
    (fun R j => xs1 (ix2 R j) + stepOf (qB X x1 x2 R) (fun l => x3 (ix2 l j))) hG k0_t1_loop.trips (le_of_eq ht) R j
  show (View.read (Elt Ideal) arg11.view _ (ix2 R j)).truncate 8 = _
  refine (congrArg (BitVec.truncate 8) (key _ fun R j => ?_)).trans ?_
  · rw [View.read_writes_junk_apply_eq_canon]
    exact block_acc X x1 x2 _ _ _ _ _ _ _ _ (fun r k => ldbf _ X hX _ _ _ r k _ _ (Nat.zero_add _).symm (Nat.zero_add _).symm) (fun r k => ldbf _ X hX _ _ _ r k _ _ (Nat.zero_add _).symm rfl) (fun r k => ldbf _ X hX _ _ _ r k _ _ (Nat.zero_add _).symm rfl) (fun r k => ldbf _ X hX _ _ _ r k _ _ (Nat.zero_add _).symm rfl) (fun r k => ldbf _ X hX _ _ _ r k _ _ rfl (Nat.zero_add _).symm) (fun r k => ldbf _ X hX _ _ _ r k _ _ rfl rfl) (fun r k => ldbf _ X hX _ _ _ r k _ _ rfl rfl) (fun r k => ldbf _ X hX _ _ _ r k _ _ rfl rfl) R x3 _ _ (fun R j => xs1 (ix2 R j))
      (fun r j => ld_at (e := .i32) _ _ _ _ _ _ _ _ rfl (Nat.zero_add _).symm) (fun r j => ld_at (e := .i32) _ _ _ _ _ _ _ _ (Nat.zero_add _).symm (Nat.zero_add _).symm) [] j
  · rw [if_pos (by rw [ht]; omega)]
    unfold passed
    have hrow : ∀ (q : Nat) (i : Fin 6) (hq : i.val = q) (inb) (l : Fin 3584), View.ld (Val := Elt Ideal) (e' := .i32) x4 (Rect.unit (s := S6x3584) ![q, 0] ![1, 3584] inb) (ix2 0 l) = x4 (ix2 i l) :=
      fun q i hq inb l => ld_at (e := .i32) x4 q 0 inb 0 l i l hq (Nat.zero_add _).symm
    rw [trunc_sext]
    simp only [hrow 1 1 rfl, hrow 2 2 rfl, hrow 3 3 rfl, hrow 4 4 rfl, hrow 5 5 rfl]
end Cert.Proof
-- ==== Proof.Fold.lean ====
module
public import proofs.«01_k».proof.Proof.Operands
public import proofs.«01_k».proof.Proof.CaseLast
@[expose] public section
set_option maxRecDepth 16384
noncomputable section
namespace Cert.Proof
open Idealize.ShloMosaic Idealize.ShloMosaic.TcCoe Idealize.SL.Sem Idealize.ShloMosaic.Tactic
open Cert.KernelIdeal Cert.KernelIdeal.Gen
variable (m : (ℓ : Loc nD τ sig) → Buf (Elt Ideal) ℓ) (c : Dev nD)

/-- The arrays the kernel reads, as it finds them: the rows of `x`, the first weights, the rows of first-stage
    parameters, the second weights, the rows of second-stage parameters. -/
def aX : S8192x3584.Idx → BitVec 8 := V m c main_v11
@[inherit_doc aX] def aW1 : S3584x18944.Idx → BitVec 8 := V m c main_arg1
@[inherit_doc aX] def aP1 : S3x18944.Idx → BitVec 32 := V m c main_v3
@[inherit_doc aX] def aW2 : S18944x3584.Idx → BitVec 8 := V m c main_arg5
@[inherit_doc aX] def aP2 : S6x3584.Idx → BitVec 32 := V m c main_v10

/-- The row of the whole array that is row `R` of the block of point `t`. -/
def rowAt (t : ℕ) (R : Fin 512) : Fin 8192 := ⟨(t / 37 * 512 + R.val) % 8192, Nat.mod_lt _ (by norm_num)⟩
/-- The hidden column that is column `l` of hidden block `f`. -/
def colAt (f : ℕ) (l : Fin 512) : Fin 18944 := ⟨(f * 512 + l.val) % 18944, Nat.mod_lt _ (by norm_num)⟩

/-- The row of `x` that row `R` of grid point `t` stands for. -/
theorem rowAt_val (t : Fin cfg0.N) (R : Fin 512) : (rowAt t.val R).val = t.val / 37 * 512 + R.val := by
  have h : t.val < 592 := lt_of_lt_of_eq t.isLt N_0
  have := R.isLt
  exact Nat.mod_eq_of_lt (by omega)
/-- The hidden column that column `l` of grid point `t` stands for. -/
theorem colAt_val (t : ℕ) (l : Fin 512) : (colAt (t % 37) l).val = t % 37 * 512 + l.val := by
  have := l.isLt
  exact Nat.mod_eq_of_lt (by omega)

/-- The quantised pre-activation of the arrays the kernel reads, at row `R` and hidden column `l`. -/
def qK (R : Fin 8192) (l : Fin 18944) : BitVec 32 :=
  qOf (fun k => aX m c (ix2 R k)) (fun k => aW1 m c (ix2 k l))
    (aP1 m c (ix2 0 l)) (aP1 m c (ix2 1 l)) (aP1 m c (ix2 2 l))

/-- What hidden block `f` adds to the second accumulation at row `R`, column `j`. -/
def stepK (R : Fin 8192) (f : ℕ) (j : Fin 3584) : BitVec 32 :=
  stepOf (fun l => qK m c R (colAt f l)) (fun l => aW2 m c (ix2 (colAt f l) j))

/-- Row `R` of `x`. -/
def xK (t : ℕ) (R : Fin 512) (k : Fin 3584) : BitVec 8 := aX m c (ix2 (rowAt t R) k)

/-- The block of `x` at a grid point. -/
theorem x0_at (t : Fin cfg0.N) (R : Fin 512) (k : Fin 3584) :
    (iblk m c 0 t : S512x3584.Idx → BitVec 8) (ix2 R k) = xK m c t.val R k :=
  iblk0_at m c t R k _ _ (rowAt_val t R) rfl

/-- The block of second parameters at a grid point: all of them. -/
theorem x4_at (t : Fin cfg0.N) (R : Fin 6) (k : Fin 3584) :
    (iblk m c 4 t : S6x3584.Idx → BitVec 32) (ix2 R k) = aP2 m c (ix2 R k) :=
  iblk4_at m c t R k _ _ rfl rfl

/-- The pre-activations of a grid point are those of its rows and hidden columns. -/
theorem qB_at (t : Fin cfg0.N) (R l : Fin 512) :
    qB (xK m c t.val) (iblk m c 1 t) (iblk m c 2 t) R l = qK m c (rowAt t.val R) (colAt (t.val % 37) l) := by
  unfold qB qK xK
  congr 1
  · funext k
    exact iblk1_at m c t k l k _ rfl (colAt_val t.val l)
  · exact iblk2_at m c t 0 l 0 _ rfl (colAt_val t.val l)
  · exact iblk2_at m c t 1 l 1 _ rfl (colAt_val t.val l)
  · exact iblk2_at m c t 2 l 2 _ rfl (colAt_val t.val l)

/-- What a grid point adds to the accumulator is the share of its 512 hidden columns. -/
theorem step_at (t : Fin cfg0.N) (R : Fin 512) (j : Fin 3584) :
    stepOf (qB (xK m c t.val) (iblk m c 1 t) (iblk m c 2 t) R) (fun l => (iblk m c 3 t : S512x3584.Idx → BitVec 8) (ix2 l j))
      = stepK m c (rowAt t.val R) (t.val % 37) j := by
  exact congrArg₂ stepOf (funext fun l => qB_at m c t R l) (funext fun l => iblk3_at m c t l j _ _ (colAt_val t.val l) rfl)

/-- What a point that is not the last of its row block leaves in the two carried scratches: the block of `x`, and the
    bias plus the steps of the hidden blocks up to its own. -/
def Carried (n : ℕ) (hn : n < cfg0.N) : Prop :=
  (∀ R k, ((outsAt0 m c n hn).2.2.2.1 : S512x3584.Idx → EReal) (ix2 R k) = ri (xK m c n R k).toInt) ∧
  (∀ R j, ((outsAt0 m c n hn).2.2.2.2 : S512x3584.Idx → BitVec 32) (ix2 R j)
    = aP2 m c (ix2 0 j) + ∑ f ∈ Finset.range (n % 37 + 1), stepK m c (rowAt n R) f j)

/-- Two neighbouring grid points of one row block have the same row block. -/
theorem row_prev (n : ℕ) (h : ¬n % 37 = 0) : (n - 1) / 37 = n / 37 := by omega

/-- Two neighbouring grid points of one row block stand for the same rows. -/
theorem rowAt_prev (n : ℕ) (h : ¬n % 37 = 0) : rowAt (n - 1) = rowAt n := by
  funext R; apply Fin.ext; unfold rowAt; dsimp only; rw [row_prev n h]

/-- Two neighbouring grid points of one row block read the same rows of `x`. -/
theorem xK_prev (n : ℕ) (h : ¬n % 37 = 0) : xK m c (n - 1) = xK m c n := by
  funext R k; unfold xK; rw [rowAt_prev n h]
/-- The whole block of `x` at a grid point. -/
theorem x0_fun (t : Fin cfg0.N) : (fun R k => (iblk m c 0 t : S512x3584.Idx → BitVec 8) (ix2 R k)) = xK m c t.val := by
  funext R k; exact x0_at m c t R k

/-- The first point of a row block starts the two scratches. -/
theorem carried_first (t : Fin cfg0.N) (h0 : t.val % 37 = 0) : Carried m c t.val t.isLt := by
  have h1 : ¬t.val % 37 = 36 := by omega
  unfold Carried
  simp only [outsAt0_A m c t h0 h1]
  refine ⟨fun R k => ?_, fun R j => ?_⟩
  · rw [← x0_at m c t R k]
    exact sout_A_0 ..
  · have e : ∑ f ∈ Finset.range (t.val % 37 + 1), stepK m c (rowAt t.val R) f j = stepK m c (rowAt t.val R) (t.val % 37) j := by
      rw [h0, Finset.sum_range_one]
    rw [e, ← step_at m c t R j, ← x0_fun m c t, ← x4_at m c t 0 j]
    exact sout_A_1 ..

/-- A later point keeps the block of `x` and adds its own step. -/
theorem carried_next (t : Fin cfg0.N) (h0 : ¬t.val % 37 = 0) (h1 : ¬t.val % 37 = 36)
    (hp : Carried m c (t.val - 1) (Nat.lt_of_le_of_lt (Nat.sub_le _ _) t.isLt)) : Carried m c t.val t.isLt := by
  unfold Carried at hp ⊢
  rw [xK_prev m c t.val h0, rowAt_prev t.val h0] at hp
  simp only [outsAt0_B m c t h0 h1]
  refine ⟨fun R k => hp.1 R k, fun R j => ?_⟩
  rw [Finset.sum_range_succ, ← add_assoc, ← step_at m c t R j]
  have e := hp.2 R j
  rw [show (t.val - 1) % 37 + 1 = t.val % 37 by omega] at e
  rw [← e]
  exact sout_B_1 (X := xK m c t.val) (hX := hp.1) ..

/-- So every point but the last of its row block leaves them as said. -/
theorem carried (n : ℕ) : ∀ (hn : n < cfg0.N), n % 37 ≠ 36 → Carried m c n hn := by
  induction n using Nat.strong_induction_on with
  | _ n ih =>
    intro hn h1
    by_cases h0 : n % 37 = 0
    · exact carried_first m c ⟨n, hn⟩ h0
    · exact carried_next m c ⟨n, hn⟩ h0 h1 (ih (n - 1) (by omega) (Nat.lt_of_le_of_lt (Nat.sub_le _ _) hn) (by omega))

/-- The quantised pre-activations a point leaves. -/
theorem q_at (t : Fin cfg0.N) (R l : Fin 512) :
    ((outsAt0 m c t.val t.isLt).2.1 : S512x512.Idx → BitVec 16) (ix2 R l) = (qK m c (rowAt t.val R) (colAt (t.val % 37) l)).truncate 16 := by
  rw [← qB_at m c t R l]
  by_cases h0 : t.val % 37 = 0
  · simp only [outsAt0_A m c t h0 (by omega)]
    rw [← x0_fun m c t]
    exact out_A_6 ..
  · have hp := carried m c (t.val - 1) (Nat.lt_of_le_of_lt (Nat.sub_le _ _) t.isLt) (by omega)
    unfold Carried at hp
    rw [xK_prev m c t.val h0] at hp
    by_cases h1 : t.val % 37 = 36
    · simp only [outsAt0_C m c t h0 h1]
      exact out_C_6 (X := xK m c t.val) (hX := hp.1) ..
    · simp only [outsAt0_B m c t h0 h1]
      exact out_B_6 (X := xK m c t.val) (hX := hp.1) ..

/-- The activations a point leaves. -/
theorem h_at (t : Fin cfg0.N) (R l : Fin 512) :
    ((outsAt0 m c t.val t.isLt).2.2.1 : S512x512.Idx → BitVec 8) (ix2 R l) = (hWide (qK m c (rowAt t.val R) (colAt (t.val % 37) l))).truncate 8 := by
  rw [← qB_at m c t R l]
  by_cases h0 : t.val % 37 = 0
  · simp only [outsAt0_A m c t h0 (by omega)]
    rw [← x0_fun m c t]
    exact out_A_7 ..
  · have hp := carried m c (t.val - 1) (Nat.lt_of_le_of_lt (Nat.sub_le _ _) t.isLt) (by omega)
    unfold Carried at hp
    rw [xK_prev m c t.val h0] at hp
    by_cases h1 : t.val % 37 = 36
    · simp only [outsAt0_C m c t h0 h1]
      exact out_C_7 (X := xK m c t.val) (hX := hp.1) ..
    · simp only [outsAt0_B m c t h0 h1]
      exact out_B_7 (X := xK m c t.val) (hX := hp.1) ..

/-- The row of words that row `R` of the kernel normalizes. -/
def zK (R : Fin 8192) (j : Fin 3584) : BitVec 32 :=
  IntOp.addi (rq (aP2 m c (ix2 0 j) + ∑ f ∈ Finset.range 37, stepK m c R f j)
      (aP2 m c (ix2 1 j)) (aP2 m c (ix2 2 j)))
    (IntOp.shli .host ((aX m c (ix2 R j)).signExtend 32) 4#32)

/-- The normalized block the last point of a row block leaves. -/
theorem out_at (t : Fin cfg0.N) (h1 : t.val % 37 = 36) (R : Fin 512) (j : Fin 3584) :
    ((outsAt0 m c t.val t.isLt).1 : S512x3584.Idx → BitVec 8) (ix2 R j)
      = lnOut (zK m c (rowAt t.val R)) (aP2 m c (ix2 3 j))
          (aP2 m c (ix2 4 j)) (aP2 m c (ix2 5 j)) j := by
  have h0 : ¬t.val % 37 = 0 := by omega
  have hp := carried m c (t.val - 1) (Nat.lt_of_le_of_lt (Nat.sub_le _ _) t.isLt) (by omega)
  unfold Carried at hp
  rw [xK_prev m c t.val h0, rowAt_prev t.val h0] at hp
  simp only [outsAt0_C m c t h0 h1]
  refine (out_C_5 (X := xK m c t.val) (hX := hp.1) ..).trans ?_
  rw [← x4_at m c t 3 j, ← x4_at m c t 4 j, ← x4_at m c t 5 j]
  refine congrArg (fun Z => lnOut Z _ _ _ j) (funext fun j => ?_)
  unfold zK
  rw [step_at m c t R j, hp.2 R j, show (t.val - 1) % 37 + 1 = 36 by omega, add_assoc, h1, ← Finset.sum_range_succ,
    ← x4_at m c t 0 j, ← x4_at m c t 1 j, ← x4_at m c t 2 j]
  rfl

/-- A row is the row of its block at its place within the block. -/
theorem split_row (R : Fin 8192) (n : ℕ) (hn : n / 37 = R.val / 512) : rowAt n ⟨R.val % 512, Nat.mod_lt _ (by norm_num)⟩ = R := by
  apply Fin.ext
  have := R.isLt
  show (n / 37 * 512 + R.val % 512) % 8192 = R.val
  omega
/-- A hidden column is the column of its block at its place within the block. -/
theorem split_col (l : Fin 18944) (n : ℕ) (hn : n % 37 = l.val / 512) : colAt (n % 37) ⟨l.val % 512, Nat.mod_lt _ (by norm_num)⟩ = l := by
  apply Fin.ext
  have := l.isLt
  show (n % 37 * 512 + l.val % 512) % 18944 = l.val
  omega

/-- The kernel's first result: the normalized rows. -/
theorem G5_at (R : Fin 8192) (j : Fin 3584) :
    (Value.G5 m c : S8192x3584.Idx → BitVec 8) (ix2 R j)
      = lnOut (zK m c R) (aP2 m c (ix2 3 j)) (aP2 m c (ix2 4 j)) (aP2 m c (ix2 5 j)) j := by
  have hR := R.isLt
  have hj := j.isLt
  have hp : Value.pt5Of (ix2 R j) = 37 * (R.val / 512) + 36 := by
    show 37 * (1 * (R.val / 512 - 0) + 1 * (j.val / 3584 - 0)) + 36 = _
    omega
  have hlt : Value.pt5Of (ix2 R j) < cfg0.N := by rw [hp]; exact lt_of_lt_of_eq (by omega) N_0.symm
  refine (dif_pos hlt).trans ?_
  rw [← Value.outsAt0_sweep m c _ hlt]
  have hl : Value.loc5Of (ix2 R j) = ix2 ⟨R.val % 512, Nat.mod_lt _ (by norm_num)⟩ j := by
    funext a
    match a with
    | ⟨0, _⟩ => rfl
    | ⟨1, _⟩ => exact Fin.ext (Nat.mod_eq_of_lt hj)
  rw [hl]
  refine (out_at m c ⟨_, hlt⟩ (by dsimp only; rw [hp]; omega) _ j).trans ?_
  rw [split_row R _ (by dsimp only; rw [hp]; omega)]

/-- The kernel's second result: the quantised pre-activations. -/
theorem G6_at (R : Fin 8192) (l : Fin 18944) :
    (Value.G6 m c : S8192x18944.Idx → BitVec 16) (ix2 R l) = (qK m c R l).truncate 16 := by
  have hR := R.isLt
  have hj := l.isLt
  have hp : Value.pt6Of (ix2 R l) = 37 * (R.val / 512) + l.val / 512 := by
    show 37 * (R.val / 512 - 0) + 1 * (l.val / 512 - 0) = _
    omega
  have hlt : Value.pt6Of (ix2 R l) < cfg0.N := by rw [hp]; exact lt_of_lt_of_eq (by omega) N_0.symm
  refine (dif_pos hlt).trans ?_
  rw [← Value.outsAt0_sweep m c _ hlt]
  have hl : Value.loc6Of (ix2 R l) = ix2 ⟨R.val % 512, Nat.mod_lt _ (by norm_num)⟩ ⟨l.val % 512, Nat.mod_lt _ (by norm_num)⟩ := by
    funext a
    match a with
    | ⟨0, _⟩ => rfl
    | ⟨1, _⟩ => rfl
  rw [hl]
  refine (q_at m c ⟨_, hlt⟩ _ _).trans ?_
  rw [split_row R _ (by dsimp only; rw [hp]; omega), split_col l _ (by dsimp only; rw [hp]; omega)]

/-- The kernel's third result: the activations. -/
theorem G7_at (R : Fin 8192) (l : Fin 18944) :
    (Value.G7 m c : S8192x18944.Idx → BitVec 8) (ix2 R l) = (hWide (qK m c R l)).truncate 8 := by
  have hR := R.isLt
  have hj := l.isLt
  have hp : Value.pt7Of (ix2 R l) = 37 * (R.val / 512) + l.val / 512 := by
    show 37 * (R.val / 512 - 0) + 1 * (l.val / 512 - 0) = _
    omega
  have hlt : Value.pt7Of (ix2 R l) < cfg0.N := by rw [hp]; exact lt_of_lt_of_eq (by omega) N_0.symm
  refine (dif_pos hlt).trans ?_
  rw [← Value.outsAt0_sweep m c _ hlt]
  have hl : Value.loc7Of (ix2 R l) = ix2 ⟨R.val % 512, Nat.mod_lt _ (by norm_num)⟩ ⟨l.val % 512, Nat.mod_lt _ (by norm_num)⟩ := by
    funext a
    match a with
    | ⟨0, _⟩ => rfl
    | ⟨1, _⟩ => rfl
  rw [hl]
  refine (h_at m c ⟨_, hlt⟩ _ _).trans ?_
  rw [split_row R _ (by dsimp only; rw [hp]; omega), split_col l _ (by dsimp only; rw [hp]; omega)]
end Cert.Proof
-- ==== Proof.RefRow.lean ====
module
public import proofs.«01_k».proof.Proof.Gen.ReferenceIdeal.Read
public import Idealize.ShloMosaic.Lib.Pointwise
public import proofs.«01_k».proof.Proof.Row
public import proofs.«01_k».proof.Proof.Half
@[expose] public section
set_option maxRecDepth 16384
noncomputable section
namespace Cert.Proof
open Idealize.ShloMosaic Idealize.ShloMosaic.TcCoe Idealize.SL.Sem Idealize.ShloMosaic.Tactic
open Cert.ReferenceIdeal Cert.ReferenceIdeal.Gen Cert.ReferenceIdeal.Read
variable (x0 : (⟨S4x2048x3584, .i8⟩ : BufTy).Contents (Elt Ideal)) (x1 : (⟨S3584x18944, .i8⟩ : BufTy).Contents (Elt Ideal))
  (x2 x3 x4 : (⟨S18944, .i32⟩ : BufTy).Contents (Elt Ideal)) (x5 : (⟨S18944x3584, .i8⟩ : BufTy).Contents (Elt Ideal))
  (x6 x7 x8 x9 x10 x11 : (⟨S3584, .i32⟩ : BufTy).Contents (Elt Ideal))

/-- A summand of the first product. -/
theorem v6_at (b : Fin 4) (s : Fin 2048) (k : Fin 3584) (l : Fin 18944) :
    val_main_v6 (F := Ideal) x0 x1 (ix4 b s k l) = (x0 (ix3 b s k)).signExtend 32 * (x1 (ix2 k l)).signExtend 32 := by
  pointwise [val_main_v6, val_main_v5, val_main_v4, val_main_v3, val_main_v2, val_main_v1, val_main_v0]
  rfl

/-- The first product at an index: the sum over the 3584 columns of `x`. -/
theorem v7_at (b : Fin 4) (s : Fin 2048) (l : Fin 18944) :
    val_main_v7 (F := Ideal) x0 x1 (ix3 b s l) = ∑ k : Fin 3584, (x0 (ix3 b s k)).signExtend 32 * (x1 (ix2 k l)).signExtend 32 := by
  unfold val_main_v7
  rw [Host.reduce_eq_fold, Shape.ReducesTo.fold_fiber_r4_a2, fold_addi]
  refine (zero_add _).trans (Finset.sum_congr rfl fun k _ => v6_at x0 x1 b s k l)

/-- The rescaled first product. -/
theorem v43_at (b : Fin 4) (s : Fin 2048) (l : Fin 18944) :
    val_main_v43 (F := Ideal) x0 x1 x2 x3 x4 (ix3 b s l) = rq (val_main_v10 (F := Ideal) x0 x1 x2 (ix3 b s l)) (x3 (ix1 l)) (x4 (ix1 l)) := by
  pointwise [val_main_v43, val_main_v42, val_main_v41, val_main_v40, val_main_v39, val_main_v38, val_main_v37, val_main_v36, val_main_v35,
    val_main_v34, val_main_v33, val_main_v32, val_main_v31, val_main_c_4, val_main_v30, val_main_v29, val_main_c_3, val_main_v28, val_main_v27, val_main_v26,
    val_main_v25, val_main_v24, val_main_v23, val_main_v22, val_main_v21, val_main_v20, val_main_v19, val_main_v18, val_main_v17, val_main_v16, val_main_v15,
    val_main_c_2, val_main_v14, val_main_v13, val_main_c_1, val_main_v12, val_main_v11, val_main_c_0]
  rfl

/-- The first product with its bias. -/
theorem v10_at (b : Fin 4) (s : Fin 2048) (l : Fin 18944) :
    val_main_v10 (F := Ideal) x0 x1 x2 (ix3 b s l)
      = (∑ k : Fin 3584, (x0 (ix3 b s k)).signExtend 32 * (x1 (ix2 k l)).signExtend 32) + x2 (ix1 l) := by
  pointwise [val_main_v10, val_main_v9, val_main_v8]
  rw [v7_at]
  rfl

/-- The reference's pre-activation. -/
theorem q_ref (b : Fin 4) (s : Fin 2048) (l : Fin 18944) :
    val_main_v46 (F := Ideal) x0 x1 x2 x3 x4 (ix3 b s l)
      = qOf (fun k => x0 (ix3 b s k)) (fun k => x1 (ix2 k l)) (x2 (ix1 l)) (x3 (ix1 l)) (x4 (ix1 l)) := by
  unfold qOf
  pointwise [val_main_v46, val_main_call0_v4, val_main_call0_v3, val_main_call0_v2, val_main_call0_v1, val_main_call0_v0, val_main_c_7, val_main_c_6, val_main_v45, val_main_v44, val_main_c_5]
  rw [v43_at, v10_at]
  rfl

/-- The reference's product of the pre-activation and its gate. -/
theorem gP_ref (b : Fin 4) (s : Fin 2048) (l : Fin 18944) :
    val_main_v61 (F := Ideal) x0 x1 x2 x3 x4 (ix3 b s l) = gP (val_main_v46 (F := Ideal) x0 x1 x2 x3 x4 (ix3 b s l)) := by
  pointwise [val_main_v61, val_main_v60, val_main_v59, val_main_c_12, val_main_v58, val_main_v57, val_main_c_11, val_main_v56, val_main_v55, val_main_v54,
    val_main_c_10, val_main_v53, val_main_v52, val_main_v51, val_main_v50, val_main_c_9, val_main_v49, val_main_v48, val_main_c_8, val_main_v47]
  rfl

/-- The reference's activation as a word. -/
theorem v85_ref (b : Fin 4) (s : Fin 2048) (l : Fin 18944) :
    val_main_v85 (F := Ideal) x0 x1 x2 x3 x4 (ix3 b s l) = hWide (val_main_v46 (F := Ideal) x0 x1 x2 x3 x4 (ix3 b s l)) := by
  unfold hWide
  rw [← gP_ref]
  pointwise [val_main_v85, val_main_call1_v4, val_main_call1_v3, val_main_call1_v2, val_main_call1_v1, val_main_call1_v0, val_main_c_25, val_main_c_24,
    val_main_v84, val_main_v83, val_main_c_23, val_main_v82, val_main_v81, val_main_v80, val_main_c_22, val_main_v79, val_main_v78, val_main_v77,
    val_main_v76, val_main_v75, val_main_v74, val_main_c_21, val_main_v73, val_main_c_20, val_main_c_19, val_main_v72, val_main_v71, val_main_c_18,
    val_main_v70, val_main_v69, val_main_v68, val_main_v67, val_main_c_17, val_main_v66, val_main_v65, val_main_v64, val_main_c_16, val_main_v63,
    val_main_c_15, val_main_v62, val_main_c_14, val_main_c_13]
  rfl

/-- The activation survives the cast to a byte and back. -/
theorem hWide_byte (r : BitVec 32) : ((hWide (qWord r)).truncate 8).setWidth 32 = hWide (qWord r) := by
  obtain ⟨b1, b2⟩ := hInt_bounds (qWord r).toInt
  rw [← ofInt_hInt]
  generalize hInt (qWord r).toInt = n at b1 b2
  lift n to ℕ using b1
  apply BitVec.eq_of_toNat_eq
  have : n < 256 := by omega
  rw [show BitVec.ofInt 32 (n : ℤ) = BitVec.ofNat 32 n from rfl]
  simp only [BitVec.toNat_setWidth, BitVec.truncate_eq_setWidth, BitVec.toNat_ofNat]
  omega

/-- A byte widened through 16 bits: the sign bit of the 16 is never set. -/
theorem wide_byte (b : BitVec 8) : (b.setWidth 16).signExtend 32 = b.setWidth 32 := by revert b; decide

/-- An int8 widened through 16 bits. -/
theorem wide_int8 (w : BitVec 8) : (w.signExtend 16).signExtend 32 = w.signExtend 32 := by revert w; decide

/-- The reference's activation at an index. -/
theorem h_ref (b : Fin 4) (s : Fin 2048) (l : Fin 18944) :
    val_main_v86 (F := Ideal) x0 x1 x2 x3 x4 (ix3 b s l)
      = (hWide (qOf (fun k => x0 (ix3 b s k)) (fun k => x1 (ix2 k l)) (x2 (ix1 l)) (x3 (ix1 l)) (x4 (ix1 l)))).truncate 8 := by
  rw [← q_ref, ← v85_ref]
  rfl

/-- A summand of the second product. -/
theorem v97_at (b : Fin 4) (s : Fin 2048) (l : Fin 18944) (j : Fin 3584) :
    val_main_v97 (F := Ideal) x0 x1 x2 x3 x4 x5 (ix4 b s l j)
      = hWide (qOf (fun k => x0 (ix3 b s k)) (fun k => x1 (ix2 k l)) (x2 (ix1 l)) (x3 (ix1 l)) (x4 (ix1 l))) * (x5 (ix2 l j)).signExtend 32 := by
  pointwise [val_main_v97, val_main_v96, val_main_v95, val_main_v94, val_main_v93, val_main_v92, val_main_v91, val_main_v90, val_main_v89]
  rw [h_ref]
  unfold qOf
  exact congrArg₂ (· * ·) ((wide_byte _).trans (hWide_byte _)) (wide_int8 _)

/-- The second product at an index: the sum over the 18944 hidden columns. -/
theorem v98_at (b : Fin 4) (s : Fin 2048) (j : Fin 3584) :
    val_main_v98 (F := Ideal) x0 x1 x2 x3 x4 x5 (ix3 b s j)
      = ∑ l : Fin 18944, hWide (qOf (fun k => x0 (ix3 b s k)) (fun k => x1 (ix2 k l)) (x2 (ix1 l)) (x3 (ix1 l)) (x4 (ix1 l))) * (x5 (ix2 l j)).signExtend 32 := by
  unfold val_main_v98
  rw [Host.reduce_eq_fold, Shape.ReducesTo.fold_fiber_r4_a2, fold_addi]
  exact (zero_add _).trans (Finset.sum_congr rfl fun k _ => v97_at x0 x1 x2 x3 x4 x5 b s k j)

/-- The column sum of the second weights. -/
theorem v88_at (j : Fin 3584) :
    val_main_v88 (F := Ideal) x5 (ix1 j) = ∑ l : Fin 18944, (x5 (ix2 l j)).signExtend 32 := by
  unfold val_main_v88
  rw [Host.reduce_eq_fold, Shape.ReducesTo.fold_fiber_r2_a0, fold_addi]
  exact (zero_add _).trans (Finset.sum_congr rfl fun k _ => rfl)

/-- The second product with the offset taken out and its bias. -/
theorem v106_at (b : Fin 4) (s : Fin 2048) (j : Fin 3584) :
    val_main_v106 (F := Ideal) x0 x1 x2 x3 x4 x5 x6 (ix3 b s j)
      = (∑ l : Fin 18944, hWide (qOf (fun k => x0 (ix3 b s k)) (fun k => x1 (ix2 k l)) (x2 (ix1 l)) (x3 (ix1 l)) (x4 (ix1 l))) * (x5 (ix2 l j)).signExtend 32)
        - 6#32 * (∑ l : Fin 18944, (x5 (ix2 l j)).signExtend 32) + x6 (ix1 j) := by
  pointwise [val_main_v106, val_main_v105, val_main_v104, val_main_v103, val_main_v102, val_main_v101, val_main_v100, val_main_v99, val_main_c_28]
  rw [v98_at, v88_at]
  rfl

/-- The rescaled second product. -/
theorem v139_at (b : Fin 4) (s : Fin 2048) (j : Fin 3584) :
    val_main_v139 (F := Ideal) x0 x1 x2 x3 x4 x5 x6 x7 x8 (ix3 b s j) = rq (val_main_v106 (F := Ideal) x0 x1 x2 x3 x4 x5 x6 (ix3 b s j)) (x7 (ix1 j)) (x8 (ix1 j)) := by
  pointwise [val_main_v139, val_main_v138, val_main_v137, val_main_v136, val_main_v135, val_main_v134, val_main_v133, val_main_v132, val_main_v131,
    val_main_v130, val_main_v129, val_main_v128, val_main_v127, val_main_c_33, val_main_v126, val_main_v125, val_main_c_32, val_main_v124,
    val_main_v123, val_main_v122, val_main_v121, val_main_v120, val_main_v119, val_main_v118, val_main_v117, val_main_v116, val_main_v115,
    val_main_v114, val_main_v113, val_main_v112, val_main_v111, val_main_c_31, val_main_v110, val_main_v109, val_main_c_30, val_main_v108,
    val_main_v107, val_main_c_29]
  rfl

/-- The row the reference normalizes. -/
def zR (b : Fin 4) (s : Fin 2048) (j : Fin 3584) : BitVec 32 := val_main_v143 (F := Ideal) x0 x1 x2 x3 x4 x5 x6 x7 x8 (ix3 b s j)

/-- The row to be normalized, in terms of the arguments. -/
theorem zR_eq (b : Fin 4) (s : Fin 2048) (j : Fin 3584) :
    zR x0 x1 x2 x3 x4 x5 x6 x7 x8 b s j = IntOp.addi (rq ((∑ l : Fin 18944, hWide (qOf (fun k => x0 (ix3 b s k)) (fun k => x1 (ix2 k l)) (x2 (ix1 l)) (x3 (ix1 l)) (x4 (ix1 l))) * (x5 (ix2 l j)).signExtend 32)
        - 6#32 * (∑ l : Fin 18944, (x5 (ix2 l j)).signExtend 32) + x6 (ix1 j)) (x7 (ix1 j)) (x8 (ix1 j)))
      (IntOp.shli .host ((x0 (ix3 b s j)).signExtend 32) 4#32) := by
  rw [← v106_at, ← v139_at]
  rfl
end Cert.Proof
-- ==== Proof.RefNorm.lean ====
module
public import proofs.«01_k».proof.Proof.Gen.ReferenceIdeal.Read
public import Idealize.ShloMosaic.Lib.Pointwise
public import proofs.«01_k».proof.Proof.RefRow
@[expose] public section
set_option maxRecDepth 16384
noncomputable section
namespace Cert.Proof
open Idealize.ShloMosaic Idealize.ShloMosaic.TcCoe Idealize.SL.Sem Idealize.ShloMosaic.Tactic
open Cert.ReferenceIdeal Cert.ReferenceIdeal.Gen Cert.ReferenceIdeal.Read
variable (x0 : (⟨S4x2048x3584, .i8⟩ : BufTy).Contents (Elt Ideal)) (x1 : (⟨S3584x18944, .i8⟩ : BufTy).Contents (Elt Ideal))
  (x2 x3 x4 : (⟨S18944, .i32⟩ : BufTy).Contents (Elt Ideal)) (x5 : (⟨S18944x3584, .i8⟩ : BufTy).Contents (Elt Ideal))
  (x6 x7 x8 x9 x10 x11 : (⟨S3584, .i32⟩ : BufTy).Contents (Elt Ideal))

/-- The reference's sum of a row. -/
theorem v144_at (b : Fin 4) (s : Fin 2048) : val_main_v144 (F := Ideal) x0 x1 x2 x3 x4 x5 x6 x7 x8 (ix2 b s) = ∑ j : Fin 3584, zR x0 x1 x2 x3 x4 x5 x6 x7 x8 b s j := by
  unfold val_main_v144
  rw [Host.reduce_eq_fold, Shape.ReducesTo.fold_fiber_r3_a2, fold_addi]
  exact (zero_add _).trans (Finset.sum_congr rfl fun k _ => rfl)

/-- The reference's mean of a row. -/
theorem v148_at (b : Fin 4) (s : Fin 2048) : val_main_v148 (F := Ideal) x0 x1 x2 x3 x4 x5 x6 x7 x8 (ix3 b s 0) = hMean (∑ j : Fin 3584, zR x0 x1 x2 x3 x4 x5 x6 x7 x8 b s j) := by
  rw [← v144_at]
  pointwise [val_main_v148, val_main_call2_v13, val_main_call2_v12, val_main_call2_c_0, val_main_call2_v11, val_main_call2_v10, val_main_call2_v9,
    val_main_call2_c, val_main_call2_v8, val_main_call2_v7, val_main_call2_v6, val_main_call2_v5, val_main_call2_v4, val_main_call2_v3,
    val_main_call2_v2, val_main_call2_v1, val_main_call2_v0, val_main_c_37, val_main_v147, val_main_v146, val_main_c_36, val_main_v145]
  rfl

/-- The deviation from the mean. -/
theorem v150_at (b : Fin 4) (s : Fin 2048) (j : Fin 3584) : val_main_v150 (F := Ideal) x0 x1 x2 x3 x4 x5 x6 x7 x8 (ix3 b s j) = lnY (zR x0 x1 x2 x3 x4 x5 x6 x7 x8 b s) j := by
  unfold lnY
  rw [← v148_at]
  pointwise [val_main_v150, val_main_v149]
  rfl

/-- The square of the shifted deviation. -/
theorem v153_at (b : Fin 4) (s : Fin 2048) (j : Fin 3584) : val_main_v153 (F := Ideal) x0 x1 x2 x3 x4 x5 x6 x7 x8 (ix3 b s j) = lnSq (zR x0 x1 x2 x3 x4 x5 x6 x7 x8 b s) j := by
  unfold lnSq
  rw [← v150_at]
  pointwise [val_main_v153, val_main_v152, val_main_v151, val_main_c_38]

/-- The sum of those squares over a row. -/
theorem v154_at (b : Fin 4) (s : Fin 2048) : val_main_v154 (F := Ideal) x0 x1 x2 x3 x4 x5 x6 x7 x8 (ix2 b s) = ∑ j : Fin 3584, lnSq (zR x0 x1 x2 x3 x4 x5 x6 x7 x8 b s) j := by
  unfold val_main_v154
  rw [Host.reduce_eq_fold, Shape.ReducesTo.fold_fiber_r3_a2, fold_addi]
  exact (zero_add _).trans (Finset.sum_congr rfl fun k _ => v153_at x0 x1 x2 x3 x4 x5 x6 x7 x8 b s k)

/-- The variance, at least one. -/
theorem v157_at (b : Fin 4) (s : Fin 2048) : val_main_v157 (F := Ideal) x0 x1 x2 x3 x4 x5 x6 x7 x8 (ix3 b s 0) = lnVar (zR x0 x1 x2 x3 x4 x5 x6 x7 x8 b s) := by
  unfold lnVar
  rw [← v154_at]
  pointwise [val_main_v157, val_main_v156, val_main_c_40, val_main_v155]

/-- The twenty steps of the root, one after the other. -/
theorem v238_at (i : S4x2048x1.Idx) : val_main_v238 (F := Ideal) x0 x1 x2 x3 x4 x5 x6 x7 x8 i = lnRoot (val_main_v157 (F := Ideal) x0 x1 x2 x3 x4 x5 x6 x7 x8 i) := by
  unfold lnRoot
  simp only [Function.iterate_succ_apply', Function.iterate_zero, id_eq]
  refine (show val_main_v238 (F := Ideal) x0 x1 x2 x3 x4 x5 x6 x7 x8 i = nstep (val_main_v157 (F := Ideal) x0 x1 x2 x3 x4 x5 x6 x7 x8 i) (val_main_v234 (F := Ideal) x0 x1 x2 x3 x4 x5 x6 x7 x8 i) from rfl).trans (congrArg (nstep _) ?_)
  refine (show val_main_v234 (F := Ideal) x0 x1 x2 x3 x4 x5 x6 x7 x8 i = nstep (val_main_v157 (F := Ideal) x0 x1 x2 x3 x4 x5 x6 x7 x8 i) (val_main_v230 (F := Ideal) x0 x1 x2 x3 x4 x5 x6 x7 x8 i) from rfl).trans (congrArg (nstep _) ?_)
  refine (show val_main_v230 (F := Ideal) x0 x1 x2 x3 x4 x5 x6 x7 x8 i = nstep (val_main_v157 (F := Ideal) x0 x1 x2 x3 x4 x5 x6 x7 x8 i) (val_main_v226 (F := Ideal) x0 x1 x2 x3 x4 x5 x6 x7 x8 i) from rfl).trans (congrArg (nstep _) ?_)
  refine (show val_main_v226 (F := Ideal) x0 x1 x2 x3 x4 x5 x6 x7 x8 i = nstep (val_main_v157 (F := Ideal) x0 x1 x2 x3 x4 x5 x6 x7 x8 i) (val_main_v222 (F := Ideal) x0 x1 x2 x3 x4 x5 x6 x7 x8 i) from rfl).trans (congrArg (nstep _) ?_)
  refine (show val_main_v222 (F := Ideal) x0 x1 x2 x3 x4 x5 x6 x7 x8 i = nstep (val_main_v157 (F := Ideal) x0 x1 x2 x3 x4 x5 x6 x7 x8 i) (val_main_v218 (F := Ideal) x0 x1 x2 x3 x4 x5 x6 x7 x8 i) from rfl).trans (congrArg (nstep _) ?_)
  refine (show val_main_v218 (F := Ideal) x0 x1 x2 x3 x4 x5 x6 x7 x8 i = nstep (val_main_v157 (F := Ideal) x0 x1 x2 x3 x4 x5 x6 x7 x8 i) (val_main_v214 (F := Ideal) x0 x1 x2 x3 x4 x5 x6 x7 x8 i) from rfl).trans (congrArg (nstep _) ?_)
  refine (show val_main_v214 (F := Ideal) x0 x1 x2 x3 x4 x5 x6 x7 x8 i = nstep (val_main_v157 (F := Ideal) x0 x1 x2 x3 x4 x5 x6 x7 x8 i) (val_main_v210 (F := Ideal) x0 x1 x2 x3 x4 x5 x6 x7 x8 i) from rfl).trans (congrArg (nstep _) ?_)
  refine (show val_main_v210 (F := Ideal) x0 x1 x2 x3 x4 x5 x6 x7 x8 i = nstep (val_main_v157 (F := Ideal) x0 x1 x2 x3 x4 x5 x6 x7 x8 i) (val_main_v206 (F := Ideal) x0 x1 x2 x3 x4 x5 x6 x7 x8 i) from rfl).trans (congrArg (nstep _) ?_)
  refine (show val_main_v206 (F := Ideal) x0 x1 x2 x3 x4 x5 x6 x7 x8 i = nstep (val_main_v157 (F := Ideal) x0 x1 x2 x3 x4 x5 x6 x7 x8 i) (val_main_v202 (F := Ideal) x0 x1 x2 x3 x4 x5 x6 x7 x8 i) from rfl).trans (congrArg (nstep _) ?_)
  refine (show val_main_v202 (F := Ideal) x0 x1 x2 x3 x4 x5 x6 x7 x8 i = nstep (val_main_v157 (F := Ideal) x0 x1 x2 x3 x4 x5 x6 x7 x8 i) (val_main_v198 (F := Ideal) x0 x1 x2 x3 x4 x5 x6 x7 x8 i) from rfl).trans (congrArg (nstep _) ?_)
  refine (show val_main_v198 (F := Ideal) x0 x1 x2 x3 x4 x5 x6 x7 x8 i = nstep (val_main_v157 (F := Ideal) x0 x1 x2 x3 x4 x5 x6 x7 x8 i) (val_main_v194 (F := Ideal) x0 x1 x2 x3 x4 x5 x6 x7 x8 i) from rfl).trans (congrArg (nstep _) ?_)
  refine (show val_main_v194 (F := Ideal) x0 x1 x2 x3 x4 x5 x6 x7 x8 i = nstep (val_main_v157 (F := Ideal) x0 x1 x2 x3 x4 x5 x6 x7 x8 i) (val_main_v190 (F := Ideal) x0 x1 x2 x3 x4 x5 x6 x7 x8 i) from rfl).trans (congrArg (nstep _) ?_)
  refine (show val_main_v190 (F := Ideal) x0 x1 x2 x3 x4 x5 x6 x7 x8 i = nstep (val_main_v157 (F := Ideal) x0 x1 x2 x3 x4 x5 x6 x7 x8 i) (val_main_v186 (F := Ideal) x0 x1 x2 x3 x4 x5 x6 x7 x8 i) from rfl).trans (congrArg (nstep _) ?_)
  refine (show val_main_v186 (F := Ideal) x0 x1 x2 x3 x4 x5 x6 x7 x8 i = nstep (val_main_v157 (F := Ideal) x0 x1 x2 x3 x4 x5 x6 x7 x8 i) (val_main_v182 (F := Ideal) x0 x1 x2 x3 x4 x5 x6 x7 x8 i) from rfl).trans (congrArg (nstep _) ?_)
  refine (show val_main_v182 (F := Ideal) x0 x1 x2 x3 x4 x5 x6 x7 x8 i = nstep (val_main_v157 (F := Ideal) x0 x1 x2 x3 x4 x5 x6 x7 x8 i) (val_main_v178 (F := Ideal) x0 x1 x2 x3 x4 x5 x6 x7 x8 i) from rfl).trans (congrArg (nstep _) ?_)
  refine (show val_main_v178 (F := Ideal) x0 x1 x2 x3 x4 x5 x6 x7 x8 i = nstep (val_main_v157 (F := Ideal) x0 x1 x2 x3 x4 x5 x6 x7 x8 i) (val_main_v174 (F := Ideal) x0 x1 x2 x3 x4 x5 x6 x7 x8 i) from rfl).trans (congrArg (nstep _) ?_)
  refine (show val_main_v174 (F := Ideal) x0 x1 x2 x3 x4 x5 x6 x7 x8 i = nstep (val_main_v157 (F := Ideal) x0 x1 x2 x3 x4 x5 x6 x7 x8 i) (val_main_v170 (F := Ideal) x0 x1 x2 x3 x4 x5 x6 x7 x8 i) from rfl).trans (congrArg (nstep _) ?_)
  refine (show val_main_v170 (F := Ideal) x0 x1 x2 x3 x4 x5 x6 x7 x8 i = nstep (val_main_v157 (F := Ideal) x0 x1 x2 x3 x4 x5 x6 x7 x8 i) (val_main_v166 (F := Ideal) x0 x1 x2 x3 x4 x5 x6 x7 x8 i) from rfl).trans (congrArg (nstep _) ?_)
  refine (show val_main_v166 (F := Ideal) x0 x1 x2 x3 x4 x5 x6 x7 x8 i = nstep (val_main_v157 (F := Ideal) x0 x1 x2 x3 x4 x5 x6 x7 x8 i) (val_main_v162 (F := Ideal) x0 x1 x2 x3 x4 x5 x6 x7 x8 i) from rfl).trans (congrArg (nstep _) ?_)
  refine (show val_main_v162 (F := Ideal) x0 x1 x2 x3 x4 x5 x6 x7 x8 i = nstep (val_main_v157 (F := Ideal) x0 x1 x2 x3 x4 x5 x6 x7 x8 i) (val_main_v158 (F := Ideal) i) from rfl).trans (congrArg (nstep _) ?_)
  rfl

/-- The factor from the square root. -/
theorem v243_at (b : Fin 4) (s : Fin 2048) : val_main_v243 (F := Ideal) x0 x1 x2 x3 x4 x5 x6 x7 x8 (ix3 b s 0) = hFac (lnRoot (lnVar (zR x0 x1 x2 x3 x4 x5 x6 x7 x8 b s))) := by
  rw [← v157_at, ← v238_at]
  pointwise [val_main_v243, val_main_call23_v12, val_main_call23_v11, val_main_call23_c_0, val_main_call23_v10, val_main_call23_v9, val_main_call23_v8,
    val_main_call23_c, val_main_call23_v7, val_main_call23_v6, val_main_call23_v5, val_main_call23_v4, val_main_call23_v3, val_main_call23_v2,
    val_main_call23_v1, val_main_call23_v0, val_main_c_64, val_main_v242, val_main_v241, val_main_c_63, val_main_v240, val_main_v239, val_main_c_62]
  rfl

/-- The normalized value. -/
theorem v247_at (b : Fin 4) (s : Fin 2048) (j : Fin 3584) : val_main_v247 (F := Ideal) x0 x1 x2 x3 x4 x5 x6 x7 x8 (ix3 b s j) = lnN (zR x0 x1 x2 x3 x4 x5 x6 x7 x8 b s) j := by
  unfold lnN
  rw [← v243_at, ← v150_at]
  pointwise [val_main_v247, val_main_v246, val_main_c_65, val_main_v245, val_main_v244]

/-- The normalized value, rescaled. -/
theorem v280_at (b : Fin 4) (s : Fin 2048) (j : Fin 3584) :
    val_main_v280 (F := Ideal) x0 x1 x2 x3 x4 x5 x6 x7 x8 x9 x10 (ix3 b s j) = rq (lnN (zR x0 x1 x2 x3 x4 x5 x6 x7 x8 b s) j) (x9 (ix1 j)) (x10 (ix1 j)) := by
  rw [← v247_at]
  pointwise [val_main_v280, val_main_v279, val_main_v278, val_main_v277, val_main_v276, val_main_v275, val_main_v274, val_main_v273, val_main_v272,
    val_main_v271, val_main_v270, val_main_v269, val_main_v268, val_main_c_70, val_main_v267, val_main_v266, val_main_c_69, val_main_v265,
    val_main_v264, val_main_v263, val_main_v262, val_main_v261, val_main_v260, val_main_v259, val_main_v258, val_main_v257, val_main_v256,
    val_main_v255, val_main_v254, val_main_v253, val_main_v252, val_main_c_68, val_main_v251, val_main_v250, val_main_c_67, val_main_v249,
    val_main_v248, val_main_c_66]
  rfl

/-- The reference's normalized entry at an index. -/
theorem out_ref (b : Fin 4) (s : Fin 2048) (j : Fin 3584) :
    val_main_v285 (F := Ideal) x0 x1 x2 x3 x4 x5 x6 x7 x8 x9 x10 x11 (ix3 b s j) = lnOut (zR x0 x1 x2 x3 x4 x5 x6 x7 x8 b s) (x9 (ix1 j)) (x10 (ix1 j)) (x11 (ix1 j)) j := by
  unfold lnOut
  rw [← v280_at]
  pointwise [val_main_v285, val_main_v284, val_main_call24_v4, val_main_call24_v3, val_main_call24_v2, val_main_call24_v1, val_main_call24_v0, val_main_c_72,
    val_main_c_71, val_main_v283, val_main_v282, val_main_v281]
  rfl
end Cert.Proof
-- ==== Proof.Equal.lean ====
module
public import proofs.«01_k».proof.Proof.Fold
public import proofs.«01_k».proof.Proof.RefNorm
@[expose] public section
set_option maxRecDepth 16384
noncomputable section
namespace Cert.Proof
open Idealize.ShloMosaic Idealize.ShloMosaic.TcCoe Idealize.SL.Sem Idealize.ShloMosaic.Tactic
open Cert.KernelIdeal Cert.KernelIdeal.Gen Cert.ReferenceIdeal.Read

/-! ## The blocks of hidden columns, put together -/

/-- A sum over the hidden columns is the sum over their 37 blocks of 512. -/
theorem sum_blocks (F : Fin 18944 → BitVec 32) : ∑ f ∈ Finset.range 37, ∑ l : Fin 512, F (colAt f l) = ∑ l, F l := by
  rw [Finset.sum_range (fun f => ∑ l : Fin 512, F (colAt f l)), ← Fintype.sum_prod_type']
  refine Fintype.sum_equiv (finProdFinEquiv (m := 37) (n := 512)) _ _ fun p => congrArg F (Fin.ext ?_)
  obtain ⟨f, l⟩ := p
  have hf := f.isLt
  have hl := l.isLt
  show (f.val * 512 + l.val) % 18944 = l.val + 512 * f.val
  omega

/-- The kernel's steps, with the shift by six taken out of the products, are the reference's accumulation. -/
theorem steps_eq (b2 : BitVec 32) (h w : Fin 18944 → BitVec 32) :
    b2 + ∑ f ∈ Finset.range 37, ∑ l : Fin 512, (h (colAt f l) - 6#32) * w (colAt f l)
      = (∑ l, h l * w l) - 6#32 * (∑ l, w l) + b2 := by
  rw [sum_blocks fun l => (h l - 6#32) * w l, Finset.mul_sum, ← Finset.sum_sub_distrib, add_comm]
  exact congrArg (· + b2) (Finset.sum_congr rfl fun l _ => sub_mul _ _ _)

/-! ## The two programs' arrays at an index -/
variable (m : (ℓ : Loc nD τ sig) → Buf (Elt Ideal) ℓ) (c : Dev nD)

/-- The arguments, at their shapes. -/
def in0 : S4x2048x3584.Idx → BitVec 8 := m ((c : Thread nD τ).loc main_arg0)
@[inherit_doc in0] def in1 : S3584x18944.Idx → BitVec 8 := m ((c : Thread nD τ).loc main_arg1)
@[inherit_doc in0] def in2 : S18944.Idx → BitVec 32 := m ((c : Thread nD τ).loc main_arg2)
@[inherit_doc in0] def in3 : S18944.Idx → BitVec 32 := m ((c : Thread nD τ).loc main_arg3)
@[inherit_doc in0] def in4 : S18944.Idx → BitVec 32 := m ((c : Thread nD τ).loc main_arg4)
@[inherit_doc in0] def in5 : S18944x3584.Idx → BitVec 8 := m ((c : Thread nD τ).loc main_arg5)
@[inherit_doc in0] def in6 : S3584.Idx → BitVec 32 := m ((c : Thread nD τ).loc main_arg6)
@[inherit_doc in0] def in7 : S3584.Idx → BitVec 32 := m ((c : Thread nD τ).loc main_arg7)
@[inherit_doc in0] def in8 : S3584.Idx → BitVec 32 := m ((c : Thread nD τ).loc main_arg8)
@[inherit_doc in0] def in9 : S3584.Idx → BitVec 32 := m ((c : Thread nD τ).loc main_arg9)
@[inherit_doc in0] def in10 : S3584.Idx → BitVec 32 := m ((c : Thread nD τ).loc main_arg10)
@[inherit_doc in0] def in11 : S3584.Idx → BitVec 32 := m ((c : Thread nD τ).loc main_arg11)

variable (b : Fin 4) (s : Fin 2048) (R : Fin 8192) (hR : R.val = 2048 * b.val + s.val)

include hR in
/-- The kernel's flattened operand `x` at a row is the argument at the row's batch and position. -/
theorem aX_at (j : Fin 3584) : aX m c (ix2 R j) = in0 m c (ix3 b s j) := V11 m c b s j R hR

/-- The kernel's first weights are the argument. -/
theorem aW1_eq : aW1 m c = in1 m c := V_main_arg1 m c
/-- The kernel's second weights are the argument. -/
theorem aW2_eq : aW2 m c = in5 m c := V_main_arg5 m c

include hR in
/-- The kernel's pre-activation in terms of the arguments. -/
theorem qK_eq (l : Fin 18944) :
    qK m c R l = qOf (fun k => in0 m c (ix3 b s k)) (fun k => in1 m c (ix2 k l)) (in2 m c (ix1 l)) (in3 m c (ix1 l)) (in4 m c (ix1 l)) := by
  unfold qK
  rw [aW1_eq, show (fun k => aX m c (ix2 R k)) = fun k => in0 m c (ix3 b s k) from funext fun k => aX_at m c b s R hR k]
  rw [show aP1 m c (ix2 0 l) = in2 m c (ix1 l) from (V3_at m c l).1, show aP1 m c (ix2 1 l) = in3 m c (ix1 l) from (V3_at m c l).2.1,
    show aP1 m c (ix2 2 l) = in4 m c (ix1 l) from (V3_at m c l).2.2]

include hR in
/-- The row the kernel normalizes is the row the reference normalizes. -/
theorem zK_eq (j : Fin 3584) :
    zK m c R j = zR (in0 m c) (in1 m c) (in2 m c) (in3 m c) (in4 m c) (in5 m c) (in6 m c) (in7 m c) (in8 m c) b s j := by
  rw [zR_eq]
  unfold zK stepK stepOf
  rw [steps_eq (aP2 m c (ix2 0 j)) (fun l => hWide (qK m c R l)) (fun l => (aW2 m c (ix2 l j)).signExtend 32), aX_at m c b s R hR, aW2_eq]
  rw [show aP2 m c (ix2 0 j) = in6 m c (ix1 j) from (V10_at m c j).1, show aP2 m c (ix2 1 j) = in7 m c (ix1 j) from (V10_at m c j).2.1,
    show aP2 m c (ix2 2 j) = in8 m c (ix1 j) from (V10_at m c j).2.2.1]
  simp only [qK_eq m c b s R hR]

/-- Row `R` of the 8192 is row `s` of batch entry `b`. -/
theorem row_split (R : Fin 8192) : ∃ (b : Fin 4) (s : Fin 2048), R.val = 2048 * b.val + s.val :=
  ⟨⟨R.val / 2048, by have := R.isLt; omega⟩, ⟨R.val % 2048, by omega⟩, by show R.val = 2048 * (R.val / 2048) + R.val % 2048; omega⟩

/-- The reference's flattened output at a row is its output at the row's batch and position. -/
theorem ref286 (x0 : S4x2048x3584.Idx → BitVec 8) (x1 : S3584x18944.Idx → BitVec 8) (x2 x3 x4 : S18944.Idx → BitVec 32) (x5 : S18944x3584.Idx → BitVec 8)
    (x6 x7 x8 x9 x10 x11 : S3584.Idx → BitVec 32) (hR : R.val = 2048 * b.val + s.val) (j : Fin 3584) :
    val_main_v286 (F := Ideal) x0 x1 x2 x3 x4 x5 x6 x7 x8 x9 x10 x11 (ix2 R j) = val_main_v285 (F := Ideal) x0 x1 x2 x3 x4 x5 x6 x7 x8 x9 x10 x11 (ix3 b s j) := by
  have hl : 2048 * b.val + s.val < 8192 := by omega
  rw [show R = ⟨2048 * b.val + s.val, hl⟩ from Fin.ext hR]
  pointwise [val_main_v286]

/-- The reference's flattened pre-activations, cut to 16 bits. -/
theorem ref288 (x0 : S4x2048x3584.Idx → BitVec 8) (x1 : S3584x18944.Idx → BitVec 8) (x2 x3 x4 : S18944.Idx → BitVec 32)
    (hR : R.val = 2048 * b.val + s.val) (l : Fin 18944) :
    val_main_v288 (F := Ideal) x0 x1 x2 x3 x4 (ix2 R l) = (val_main_v46 (F := Ideal) x0 x1 x2 x3 x4 (ix3 b s l)).truncate 16 := by
  have hl : 2048 * b.val + s.val < 8192 := by omega
  rw [show R = ⟨2048 * b.val + s.val, hl⟩ from Fin.ext hR]
  pointwise [val_main_v288, val_main_v287]

/-- The reference's flattened activations. -/
theorem ref289 (x0 : S4x2048x3584.Idx → BitVec 8) (x1 : S3584x18944.Idx → BitVec 8) (x2 x3 x4 : S18944.Idx → BitVec 32)
    (hR : R.val = 2048 * b.val + s.val) (l : Fin 18944) :
    val_main_v289 (F := Ideal) x0 x1 x2 x3 x4 (ix2 R l) = val_main_v86 (F := Ideal) x0 x1 x2 x3 x4 (ix3 b s l) := by
  have hl : 2048 * b.val + s.val < 8192 := by omega
  rw [show R = ⟨2048 * b.val + s.val, hl⟩ from Fin.ext hR]
  pointwise [val_main_v289]

/-- The normalized rows of the two programs agree. -/
theorem out_eq : (Value.G5 m c : S8192x3584.Idx → BitVec 8)
    = val_main_v286 (F := Ideal) (in0 m c) (in1 m c) (in2 m c) (in3 m c) (in4 m c) (in5 m c) (in6 m c) (in7 m c) (in8 m c) (in9 m c) (in10 m c) (in11 m c) := by
  funext i
  obtain ⟨R, j, rfl⟩ : ∃ (R : Fin 8192) (j : Fin 3584), i = ix2 R j := ⟨i 0, i 1, eq_ix2 i⟩
  obtain ⟨b, s, hR⟩ := row_split R
  rw [G5_at, ref286 b s R _ _ _ _ _ _ _ _ _ _ _ _ hR, out_ref,
    show zK m c R = zR (in0 m c) (in1 m c) (in2 m c) (in3 m c) (in4 m c) (in5 m c) (in6 m c) (in7 m c) (in8 m c) b s from
      funext fun j => zK_eq m c b s R hR j,
    show aP2 m c (ix2 3 j) = in9 m c (ix1 j) from (V10_at m c j).2.2.2.1, show aP2 m c (ix2 4 j) = in10 m c (ix1 j) from (V10_at m c j).2.2.2.2.1,
    show aP2 m c (ix2 5 j) = in11 m c (ix1 j) from (V10_at m c j).2.2.2.2.2]

/-- The quantised pre-activations of the two programs agree. -/
theorem q_eq : (Value.G6 m c : S8192x18944.Idx → BitVec 16)
    = val_main_v288 (F := Ideal) (in0 m c) (in1 m c) (in2 m c) (in3 m c) (in4 m c) := by
  funext i
  obtain ⟨R, l, rfl⟩ : ∃ (R : Fin 8192) (l : Fin 18944), i = ix2 R l := ⟨i 0, i 1, eq_ix2 i⟩
  obtain ⟨b, s, hR⟩ := row_split R
  rw [G6_at, ref288 b s R _ _ _ _ _ hR, q_ref, qK_eq m c b s R hR]

/-- The activations of the two programs agree. -/
theorem h_eq : (Value.G7 m c : S8192x18944.Idx → BitVec 8)
    = val_main_v289 (F := Ideal) (in0 m c) (in1 m c) (in2 m c) (in3 m c) (in4 m c) := by
  funext i
  obtain ⟨R, l, rfl⟩ : ∃ (R : Fin 8192) (l : Fin 18944), i = ix2 R l := ⟨i 0, i 1, eq_ix2 i⟩
  obtain ⟨b, s, hR⟩ := row_split R
  rw [G7_at, ref289 b s R _ _ _ _ _ hR, h_ref, qK_eq m c b s R hR]
end Cert.Proof
-- ==== Proof.Algebraic.lean ====
module
public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Equal
@[expose] public section
set_option maxRecDepth 16384
noncomputable section
namespace Cert.Proof
open Idealize.ShloMosaic Idealize.SL.Sem Cert.ReferenceIdeal.Read

/-- Arguments that agree, as the reference's run reads them. -/
theorem launched (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (same : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    StableHlo.launchContents m' c (Proc.devRef .tc Cert.ReferenceIdeal.main_arg0) = in0 m c
      ∧ StableHlo.launchContents m' c (Proc.devRef .tc Cert.ReferenceIdeal.main_arg1) = in1 m c
      ∧ StableHlo.launchContents m' c (Proc.devRef .tc Cert.ReferenceIdeal.main_arg2) = in2 m c
      ∧ StableHlo.launchContents m' c (Proc.devRef .tc Cert.ReferenceIdeal.main_arg3) = in3 m c
      ∧ StableHlo.launchContents m' c (Proc.devRef .tc Cert.ReferenceIdeal.main_arg4) = in4 m c
      ∧ StableHlo.launchContents m' c (Proc.devRef .tc Cert.ReferenceIdeal.main_arg5) = in5 m c
      ∧ StableHlo.launchContents m' c (Proc.devRef .tc Cert.ReferenceIdeal.main_arg6) = in6 m c
      ∧ StableHlo.launchContents m' c (Proc.devRef .tc Cert.ReferenceIdeal.main_arg7) = in7 m c
      ∧ StableHlo.launchContents m' c (Proc.devRef .tc Cert.ReferenceIdeal.main_arg8) = in8 m c
      ∧ StableHlo.launchContents m' c (Proc.devRef .tc Cert.ReferenceIdeal.main_arg9) = in9 m c
      ∧ StableHlo.launchContents m' c (Proc.devRef .tc Cert.ReferenceIdeal.main_arg10) = in10 m c
      ∧ StableHlo.launchContents m' c (Proc.devRef .tc Cert.ReferenceIdeal.main_arg11) = in11 m c := same

/-- From arguments that agree, the idealized kernel and the reference end with the same three arrays. -/
theorem algebraic : Cert.algebraic_KernelIdeal_ReferenceIdeal (hKernelIdeal := Cert.KernelIdeal.Gen.facts)
    (hReferenceIdeal := Cert.ReferenceIdeal.Gen.facts) := fun m g m' g' _ same =>
  ⟨fun c => Cert.KernelIdeal.Value.G5 m c, fun c => Cert.KernelIdeal.Value.G6 m c, fun c => Cert.KernelIdeal.Value.G7 m c,
    Cert.KernelIdeal.Value.run m g,
    (θ_run Cert.ReferenceIdeal.defs _ _).mono (fun r h c => by
      obtain ⟨e0, e1, e2, e3, e4, e5, e6, e7, e8, e9, e10, e11⟩ := launched m m' c (same c)
      obtain ⟨r0, r1, r2, kept⟩ := h c
      refine ⟨r0.trans ?_, r1.trans ?_, r2.trans ?_, kept⟩
      · refine (val_main_v286_eq (F := Ideal) (StableHlo.launchContents m' c)).trans ?_
        rw [e0, e1, e2, e3, e4, e5, e6, e7, e8, e9, e10, e11]
        exact (out_eq m c).symm
      · refine (val_main_v288_eq (F := Ideal) (StableHlo.launchContents m' c)).trans ?_
        rw [e0, e1, e2, e3, e4]
        exact (q_eq m c).symm
      · refine (val_main_v289_eq (F := Ideal) (StableHlo.launchContents m' c)).trans ?_
        rw [e0, e1, e2, e3, e4]
        exact (h_eq m c).symm) (Cert.ReferenceIdeal.Value.run m' g')⟩
end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference terminates with its arguments unchanged. -/
theorem frame_r : Cert.quiescent_ReferenceIdeal (hReferenceIdeal := Cert.ReferenceIdeal.Gen.facts) := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run m ρ)

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_r, trivial, algebraic⟩

end Cert.Proof

end
